-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x4096x5632 : Shape := ⟨3, ![16, 4096, 5632]⟩
abbrev S8x257 : Shape := ⟨2, ![8, 257]⟩
abbrev S16x4096x1024 : Shape := ⟨3, ![16, 4096, 1024]⟩
abbrev S_ : Shape := ⟨0, ![]⟩

class Facts : Prop where
  slices_S16x4096x5632_S16x4096x1024_0_0_2048 : S16x4096x5632.Slices ![0, 0, 2048] S16x4096x1024
  bitsLt_bf16_f32 : FTy.bits .bf16 < FTy.bits .f32
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S16x4096x5632 .bf16) (main_arg1 : FVec F S8x257 .f32) : IVec S_ 1 :=
  let main_v0 : FVec F S16x4096x1024 .bf16 := (extractStridedSlice S16x4096x1024 ![0, 0, 2048] · slices_S16x4096x5632_S16x4096x1024_0_0_2048) main_arg0
  let main_v1 : FVec F S16x4096x1024 .f32 := (extf .f32 · bitsLt_bf16_f32) main_v0
  let main_v2 : FVec F S16x4096x1024 .f32 := Host.absf main_v1
  let main_cst : FVec F S_ .f32 := constant S_ .f32 0x7F800000#32
  let main_v3 : FVec F S16x4096x1024 .f32 := broadcastInDim S16x4096x1024 ![] bcast_S_S16x4096x1024 main_cst
  let main_v4 : IVec S16x4096x1024 1 := cmpf .olt main_v2 main_v3
  let main_c : IVec S_ 1 := constantI S_ 1 1#1
  let main_v5 : IVec S_ 1 := (fun x v => Host.reduce IntOp.andi x v reducesTo_S16x4096x1024_S_d0_1_2 h_S_) main_v4 main_c
  let main_v6 : FVec F S8x257 .f32 := Host.absf main_arg1
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  main_v10
-- ==== Kernel.lean ====
abbrev S16x4096x5632 : Shape := ⟨3, ![16, 4096, 5632]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S1024 : Shape := ⟨1, ![1024]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S256x768 : Shape := ⟨2, ![256, 768]⟩
abbrev S1x256x768 : Shape := ⟨3, ![1, 256, 768]⟩
abbrev S8x256x3x256 : Shape := ⟨4, ![8, 256, 3, 256]⟩
abbrev S8x3x256x256 : Shape := ⟨4, ![8, 3, 256, 256]⟩
abbrev S16x4096x512 : Shape := ⟨3, ![16, 4096, 512]⟩
abbrev S1x512x128 : Shape := ⟨3, ![1, 512, 128]⟩
abbrev S1x256x128 : Shape := ⟨3, ![1, 256, 128]⟩
abbrev S2x3x256x256 : Shape := ⟨4, ![2, 3, 256, 256]⟩
abbrev S1x128 : Shape := ⟨2, ![1, 128]⟩
abbrev S256x128 : Shape := ⟨2, ![256, 128]⟩
abbrev S256x256 : Shape := ⟨2, ![256, 256]⟩
abbrev S1x1x256x256 : Shape := ⟨4, ![1, 1, 256, 256]⟩

abbrev nBuf : Space → Nat
  | .hbm => 101
  | .vmem => 22
  | .smem => 0
  | _ => 0

abbrev bufTy : (tb : Table) → Fin (tcTables nBuf tb) → BufTy
  | .hbm, ⟨0, _⟩ => ⟨S16x4096x5632, .bf16⟩
  | .hbm, ⟨1, _⟩ => ⟨S8x257, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S1x768, .i32⟩
  | .hbm, ⟨8, _⟩ => ⟨S1x768, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S8x1024, .f32⟩
  | .hbm, ⟨40, _⟩ => ⟨S1x8x1x1024, .f32⟩
  | .hbm, ⟨41, _⟩ => ⟨S1x8x256x1024, .f32⟩
  | .hbm, ⟨42, _⟩ => ⟨S8x262144, .f32⟩
  | .hbm, ⟨43, _⟩ => ⟨S8x261888, .f32⟩
  | .hbm, ⟨44, _⟩ => ⟨S8x256x1023, .f32⟩
  | .hbm, ⟨45, _⟩ => ⟨S8x256x768, .f32⟩
  | .hbm, ⟨46, _⟩ => ⟨S_, .i32⟩
  | .hbm, ⟨47, _⟩ => ⟨S_, .i32⟩
  | .hbm, ⟨48, _⟩ => ⟨S256x1, .i32⟩
  | .hbm, ⟨49, _⟩ => ⟨S256x1, .i32⟩
  | .hbm, ⟨50, _⟩ => ⟨S256x1, .i32⟩
  | .hbm, ⟨51, _⟩ => ⟨S_, .i32⟩
  | .hbm, ⟨52, _⟩ => ⟨S256x1, .i32⟩
  | .hbm, ⟨53, _⟩ => ⟨S256x1, .i1⟩
  | .hbm, ⟨54, _⟩ => ⟨S256x1, .i32⟩
  | .hbm, ⟨55, _⟩ => ⟨S256x1, .i32⟩
  | .hbm, ⟨56, _⟩ => ⟨S_, .i32⟩
  | .hbm, ⟨57, _⟩ => ⟨S256x1, .i32⟩
  | .hbm, ⟨58, _⟩ => ⟨S256x1, .i1⟩
  | .hbm, ⟨59, _⟩ => ⟨S256x1, .i1⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x1, .i32⟩
  | .hbm, ⟨64, _⟩ => ⟨S_, .i32⟩
  | .hbm, ⟨65, _⟩ => ⟨S_, .i32⟩
  | .hbm, ⟨66, _⟩ => ⟨S1x768, .i32⟩
  | .hbm, ⟨67, _⟩ => ⟨S1x768, .i32⟩
  | .hbm, ⟨68, _⟩ => ⟨S1x768, .i32⟩
  | .hbm, ⟨69, _⟩ => ⟨S_, .i32⟩
  | .hbm, ⟨70, _⟩ => ⟨S1x768, .i32⟩
  | .hbm, ⟨71, _⟩ => ⟨S1x768, .i1⟩
  | .hbm, ⟨72, _⟩ => ⟨S1x768, .i32⟩
  | .hbm, ⟨73, _⟩ => ⟨S1x768, .i32⟩
  | .hbm, ⟨74, _⟩ => ⟨S_, .i32⟩
  | .hbm, ⟨75, _⟩ => ⟨S1x768, .i32⟩
  | .hbm, ⟨76, _⟩ => ⟨S1x768, .i1⟩
  | .hbm, ⟨77, _⟩ => ⟨S1x768, .i1⟩
  | .hbm, ⟨78, _⟩ => ⟨S_, .i32⟩
  | .hbm, ⟨79, _⟩ => ⟨S1x768, .i32⟩
  | .hbm, ⟨80, _⟩ => ⟨S1x768, .i32⟩
  | .hbm, ⟨81, _⟩ => ⟨S1x768, .i32⟩
  | .hbm, ⟨82, _⟩ => ⟨S256x768, .i32⟩
  | .hbm, ⟨83, _⟩ => ⟨S256x768, .i32⟩
  | .hbm, ⟨84, _⟩ => ⟨S256x768, .i1⟩
  | .hbm, ⟨85, _⟩ => ⟨S_, .i32⟩
  | .hbm, ⟨86, _⟩ => ⟨S256x1, .i32⟩
  | .hbm, ⟨87, _⟩ => ⟨S256x1, .i32⟩
  | .hbm, ⟨88, _⟩ => ⟨S256x768, .i32⟩
  | .hbm, ⟨89, _⟩ => ⟨S256x768, .i32⟩
  | .hbm, ⟨90, _⟩ => ⟨S256x768, .i1⟩
  | .hbm, ⟨91, _⟩ => ⟨S256x768, .i1⟩
  | .hbm, ⟨92, _⟩ => ⟨S1x256x768, .i1⟩
  | .hbm, ⟨93, _⟩ => ⟨S_, .f32⟩
  | .hbm, ⟨94, _⟩ => ⟨S_, .f32⟩
  | .hbm, ⟨95, _⟩ => ⟨S8x256x768, .i1⟩
  | .hbm, ⟨96, _⟩ => ⟨S8x256x768, .f32⟩
  | .hbm, ⟨97, _⟩ => ⟨S8x256x768, .f32⟩
  | .hbm, ⟨98, _⟩ => ⟨S8x256x3x256, .f32⟩
  | .hbm, ⟨99, _⟩ => ⟨S8x3x256x256, .f32⟩
  | .hbm, ⟨100, _⟩ => ⟨S16x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S2x3x256x256, .f32⟩
  | .local _ .vmem, ⟨19, _⟩ => ⟨S2x3x256x256, .f32⟩
  | .local _ .vmem, ⟨20, _⟩ => ⟨S1x512x128, .bf16⟩
  | .local _ .vmem, ⟨21, _⟩ => ⟨S1x512x128, .bf16⟩
  | _, _ => ⟨S16x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_c_4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v30 : Ref sig .tc := ⟨.hbm, 63, rfl⟩
abbrev main_c_9 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_10 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c2_i32_0 : BitVec 32 := 2#32
  let v1 : BitVec 32 := Scalar.subi v0 c2_i32_0
  let c0_i32 : BitVec 32 := 0#32
  let v2 : BitVec 32 := Scalar.maxsi v1 c0_i32
  let c20_i32 : BitVec 32 := 20#32
  let v3 : BitVec 32 := Scalar.addi c20_i32 arg0
  let c0_i32_1 : BitVec 32 := 0#32
  ![arg1.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg0
  let c0_i32_0 : BitVec 32 := 0#32
  ![arg1.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.subi v0 c0_i32
  let c0_i32_0 : BitVec 32 := 0#32
  let v2 : BitVec 32 := Scalar.maxsi v1 c0_i32_0
  let c20_i32 : BitVec 32 := 20#32
  let v3 : BitVec 32 := Scalar.addi c20_i32 arg0
  let c0_i32_1 : BitVec 32 := 0#32
  ![arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c_m1_i32 : BitVec 32 := 4294967295#32
  let v1 : BitVec 32 := Scalar.subi v0 c_m1_i32
  let c0_i32 : BitVec 32 := 0#32
  let v2 : BitVec 32 := Scalar.maxsi v1 c0_i32
  let c20_i32 : BitVec 32 := 20#32
  let v3 : BitVec 32 := Scalar.addi c20_i32 arg0
  let c0_i32_0 : BitVec 32 := 0#32
  ![arg1.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c2_i32_0 : BitVec 32 := 2#32
  let v1 : BitVec 32 := Scalar.subi v0 c2_i32_0
  let c0_i32 : BitVec 32 := 0#32
  let v2 : BitVec 32 := Scalar.maxsi v1 c0_i32
  let c24_i32 : BitVec 32 := 24#32
  let v3 : BitVec 32 := Scalar.addi c24_i32 arg0
  let c0_i32_1 : BitVec 32 := 0#32
  ![arg1.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![arg1.toNat, v2.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.subi v0 c0_i32
  let c0_i32_0 : BitVec 32 := 0#32
  let v2 : BitVec 32 := Scalar.maxsi v1 c0_i32_0
  let c24_i32 : BitVec 32 := 24#32
  let v3 : BitVec 32 := Scalar.addi c24_i32 arg0
  let c0_i32_1 : BitVec 32 := 0#32
  ![arg1.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c_m1_i32 : BitVec 32 := 4294967295#32
  let v1 : BitVec 32 := Scalar.subi v0 c_m1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![arg1.toNat, v2.toNat, v3.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2x3x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x5632 : Shape := ⟨3, ![16, 4096, 5632]⟩
abbrev S8x257 : Shape := ⟨2, ![8, 257]⟩
abbrev S16x4096x512 : Shape := ⟨3, ![16, 4096, 512]⟩
abbrev S16x4096x8x64 : Shape := ⟨4, ![16, 4096, 8, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S8x4096x4096 : Shape := ⟨3, ![8, 4096, 4096]⟩
abbrev S16x8x4096x4096 : Shape := ⟨4, ![16, 8, 4096, 4096]⟩
abbrev S1x8x4096x4096 : Shape := ⟨4, ![1, 8, 4096, 4096]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩

abbrev nBuf : Space → Nat
  | .hbm => 99
  | .vmem => 0
  | .smem => 0
  | _ => 0

abbrev bufTy : (tb : Table) → Fin (tcTables nBuf tb) → BufTy
  | .hbm, ⟨0, _⟩ => ⟨S16x4096x5632, .bf16⟩
  | .hbm, ⟨1, _⟩ => ⟨S8x257, .f32⟩
  | .hbm, ⟨2, _⟩ => ⟨S16x4096x512, .bf16⟩
  | .hbm, ⟨3, _⟩ => ⟨S16x4096x512, .f32⟩
  | .hbm, ⟨4, _⟩ => ⟨S16x4096x8x64, .f32⟩
  | .hbm, ⟨5, _⟩ => ⟨S16x4096x512, .bf16⟩
  | .hbm, ⟨6, _⟩ => ⟨S16x4096x512, .f32⟩
  | .hbm, ⟨7, _⟩ => ⟨S16x4096x8x64, .f32⟩
  | .hbm, ⟨8, _⟩ => ⟨S16x4096x512, .bf16⟩
  | .hbm, ⟨9, _⟩ => ⟨S16x4096x512, .f32⟩
  | .hbm, ⟨10, _⟩ => ⟨S16x4096x8x64, .f32⟩
  | .hbm, ⟨11, _⟩ => ⟨S4096, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S4096x4096x1, .i32⟩
  | .hbm, ⟨36, _⟩ => ⟨S8x4096x4096, .f32⟩
  | .hbm, ⟨37, _⟩ => ⟨S_, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S1x4096, .i32⟩
  | .hbm, ⟨56, _⟩ => ⟨S4096x1, .i32⟩
  | .hbm, ⟨57, _⟩ => ⟨S4096x4096, .i32⟩
  | .hbm, ⟨58, _⟩ => ⟨S4096x4096, .i32⟩
  | .hbm, ⟨59, _⟩ => ⟨S4096x4096, .i1⟩
  | .hbm, ⟨60, _⟩ => ⟨S1x4096, .i32⟩
  | .hbm, ⟨61, _⟩ => ⟨S4096x1, .i32⟩
  | .hbm, ⟨62, _⟩ => ⟨S_, .i32⟩
  | .hbm, ⟨63, _⟩ => ⟨S4096x1, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S4096x4096, .i1⟩
  | .hbm, ⟨69, _⟩ => ⟨S16x8x4096x4096, .f32⟩
  | .hbm, ⟨70, _⟩ => ⟨S_, .f32⟩
  | .hbm, ⟨71, _⟩ => ⟨S16x8x4096x4096, .f32⟩
  | .hbm, ⟨72, _⟩ => ⟨S16x8x4096x4096, .f32⟩
  | .hbm, ⟨73, _⟩ => ⟨S1x8x4096x4096, .f32⟩
  | .hbm, ⟨74, _⟩ => ⟨S16x8x4096x4096, .f32⟩
  | .hbm, ⟨75, _⟩ => ⟨S16x8x4096x4096, .f32⟩
  | .hbm, ⟨76, _⟩ => ⟨S_, .f32⟩
  | .hbm, ⟨77, _⟩ => ⟨S_, .f32⟩
  | .hbm, ⟨78, _⟩ => ⟨S16x8x4096x4096, .i1⟩
  | .hbm, ⟨79, _⟩ => ⟨S16x8x4096x4096, .f32⟩
  | .hbm, ⟨80, _⟩ => ⟨S16x8x4096x4096, .f32⟩
  | .hbm, ⟨81, _⟩ => ⟨S_, .f32⟩
  | .hbm, ⟨82, _⟩ => ⟨S16x8x4096, .f32⟩
  | .hbm, ⟨83, _⟩ => ⟨S_, .f32⟩
  | .hbm, ⟨84, _⟩ => ⟨S16x8x4096, .f32⟩
  | .hbm, ⟨85, _⟩ => ⟨S16x8x4096, .f32⟩
  | .hbm, ⟨86, _⟩ => ⟨S16x8x4096x1, .f32⟩
  | .hbm, ⟨87, _⟩ => ⟨S16x8x4096x4096, .f32⟩
  | .hbm, ⟨88, _⟩ => ⟨S16x8x4096x4096, .f32⟩
  | .hbm, ⟨89, _⟩ => ⟨S16x8x4096x4096, .f32⟩
  | .hbm, ⟨90, _⟩ => ⟨S_, .f32⟩
  | .hbm, ⟨91, _⟩ => ⟨S16x8x4096, .f32⟩
  | .hbm, ⟨92, _⟩ => ⟨S16x8x4096x1, .f32⟩
  | .hbm, ⟨93, _⟩ => ⟨S16x8x4096x4096, .f32⟩
  | .hbm, ⟨94, _⟩ => ⟨S16x8x4096x4096, .f32⟩
  | .hbm, ⟨95, _⟩ => ⟨S16x8x64x4096, .f32⟩
  | .hbm, ⟨96, _⟩ => ⟨S16x4096x8x64, .f32⟩
  | .hbm, ⟨97, _⟩ => ⟨S16x4096x512, .f32⟩
  | .hbm, ⟨98, _⟩ => ⟨S16x4096x512, .bf16⟩
  | _, _ => ⟨S16x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v45 : Ref sig .tc := ⟨.hbm, 80, rfl⟩
abbrev main_cst_7 : Ref sig .tc := ⟨.hbm, 81, rfl⟩
abbrev main_v46 : Ref sig .tc := ⟨.hbm, 82, rfl⟩
abbrev main_cst_8 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x6144 : Shape := ⟨2, ![16, 6144]⟩
abbrev S1024 : Shape := ⟨1, ![1024]⟩
abbrev S1024x5640 : Shape := ⟨2, ![1024, 5640]⟩
abbrev S4 : Shape := ⟨1, ![4]⟩
abbrev S16x1024 : Shape := ⟨2, ![16, 1024]⟩
abbrev S16x1x1024 : Shape := ⟨3, ![16, 1, 1024]⟩
abbrev S1024x1024 : Shape := ⟨2, ![1024, 1024]⟩
abbrev S1024x512 : Shape := ⟨2, ![1024, 512]⟩
abbrev S1024x5632 : Shape := ⟨2, ![1024, 5632]⟩
abbrev S1024x4 : Shape := ⟨2, ![1024, 4]⟩
abbrev S_ : Shape := ⟨0, ![]⟩
abbrev S1024x120 : Shape := ⟨2, ![1024, 120]⟩
abbrev S1024x128 : Shape := ⟨2, ![1024, 128]⟩
abbrev S1024x8 : Shape := ⟨2, ![1024, 8]⟩
abbrev S8x1024 : Shape := ⟨2, ![8, 1024]⟩
abbrev S8 : Shape := ⟨1, ![8]⟩
abbrev S120 : Shape := ⟨1, ![120]⟩
abbrev S128 : Shape := ⟨1, ![128]⟩
abbrev S1x128 : Shape := ⟨2, ![1, 128]⟩
abbrev S8x1 : Shape := ⟨2, ![8, 1]⟩
abbrev S8x512 : Shape := ⟨2, ![8, 512]⟩
abbrev S1x1024 : Shape := ⟨2, ![1, 1024]⟩
abbrev S16x4096x5632 : Shape := ⟨3, ![16, 4096, 5632]⟩
abbrev S16x4096x128 : Shape := ⟨3, ![16, 4096, 128]⟩
abbrev S16x8x4096 : Shape := ⟨3, ![16, 8, 4096]⟩
abbrev S1x512x1024 : Shape := ⟨3, ![1, 512, 1024]⟩
abbrev S1x1x1024 : Shape := ⟨3, ![1, 1, 1024]⟩
abbrev S1x512x5632 : Shape := ⟨3, ![1, 512, 5632]⟩
abbrev S1x512x128 : Shape := ⟨3, ![1, 512, 128]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x5632 : Shape := ⟨2, ![512, 5632]⟩

abbrev nBuf : Space → Nat
  | .hbm => 47
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x5640, .f32⟩
  | .hbm, ⟨4, _⟩ => ⟨S4, .f32⟩
  | .hbm, ⟨5, _⟩ => ⟨S4, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S1024x1024, .f32⟩
  | .hbm, ⟨19, _⟩ => ⟨S1024x1024, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x1024, .f32⟩
  | .hbm, ⟨24, _⟩ => ⟨S1024x512, .f32⟩
  | .hbm, ⟨25, _⟩ => ⟨S1024x512, .f32⟩
  | .hbm, ⟨26, _⟩ => ⟨S1024x5632, .f32⟩
  | .hbm, ⟨27, _⟩ => ⟨S1024x5632, .bf16⟩
  | .hbm, ⟨28, _⟩ => ⟨S1024x4, .f32⟩
  | .hbm, ⟨29, _⟩ => ⟨S1024x4, .f32⟩
  | .hbm, ⟨30, _⟩ => ⟨S_, .f32⟩
  | .hbm, ⟨31, _⟩ => ⟨S1024x120, .f32⟩
  | .hbm, ⟨32, _⟩ => ⟨S1024x128, .f32⟩
  | .hbm, ⟨33, _⟩ => ⟨S1024x128, .bf16⟩
  | .hbm, ⟨34, _⟩ => ⟨S1024x8, .bf16⟩
  | .hbm, ⟨35, _⟩ => ⟨S8x1024, .bf16⟩
  | .hbm, ⟨36, _⟩ => ⟨S8, .f32⟩
  | .hbm, ⟨37, _⟩ => ⟨S_, .f32⟩
  | .hbm, ⟨38, _⟩ => ⟨S120, .f32⟩
  | .hbm, ⟨39, _⟩ => ⟨S128, .f32⟩
  | .hbm, ⟨40, _⟩ => ⟨S1x128, .f32⟩
  | .hbm, ⟨41, _⟩ => ⟨S8x1, .f32⟩
  | .hbm, ⟨42, _⟩ => ⟨S8x512, .f32⟩
  | .hbm, ⟨43, _⟩ => ⟨S1x1024, .f32⟩
  | .hbm, ⟨44, _⟩ => ⟨S16x4096x5632, .bf16⟩
  | .hbm, ⟨45, _⟩ => ⟨S16x4096x128, .f32⟩
  | .hbm, ⟨46, _⟩ => ⟨S16x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5632, .bf16⟩
  | .local _ .vmem, ⟨8, _⟩ => ⟨S1024x128, .bf16⟩
  | .local _ .vmem, ⟨9, _⟩ => ⟨S8x1024, .bf16⟩
  | .local _ .vmem, ⟨10, _⟩ => ⟨S1x128, .f32⟩
  | .local _ .vmem, ⟨11, _⟩ => ⟨S8x512, .f32⟩
  | .local _ .vmem, ⟨12, _⟩ => ⟨S1x512x5632, .bf16⟩
  | .local _ .vmem, ⟨13, _⟩ => ⟨S1x512x5632, .bf16⟩
  | .local _ .vmem, ⟨14, _⟩ => ⟨S1x512x128, .f32⟩
  | .local _ .vmem, ⟨15, _⟩ => ⟨S1x512x128, .f32⟩
  | .local _ .vmem, ⟨16, _⟩ => ⟨S1x8x512, .f32⟩
  | .local _ .vmem, ⟨17, _⟩ => ⟨S1x8x512, .f32⟩
  | .local _ .vmem, ⟨18, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![16, 8, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference2Ideal.lean ====
abbrev S16x4096x1024 : Shape := ⟨3, ![16, 4096, 1024]⟩
abbrev S16x6144 : Shape := ⟨2, ![16, 6144]⟩
abbrev S1024 : Shape := ⟨1, ![1024]⟩
abbrev S1024x5640 : Shape := ⟨2, ![1024, 5640]⟩
abbrev S4 : Shape := ⟨1, ![4]⟩
abbrev S16x1024 : Shape := ⟨2, ![16, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x5640 : Shape := ⟨3, ![16, 4096, 5640]⟩
abbrev S16x4096x512 : Shape := ⟨3, ![16, 4096, 512]⟩
abbrev S16x4096x4 : Shape := ⟨3, ![16, 4096, 4]⟩
abbrev S1x1x4 : Shape := ⟨3, ![1, 1, 4]⟩
abbrev S16x4096x8 : Shape := ⟨3, ![16, 4096, 8]⟩
abbrev S16x4096x5632 : Shape := ⟨3, ![16, 4096, 5632]⟩
abbrev S16x4096x128 : Shape := ⟨3, ![16, 4096, 128]⟩
abbrev S16x8x4096 : Shape := ⟨3, ![16, 8, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x5640, .f32⟩
  | .hbm, ⟨4, _⟩ => ⟨S4, .f32⟩
  | .hbm, ⟨5, _⟩ => ⟨S4, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4096x1024, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S16x4096x1, .f32⟩
  | .hbm, ⟨23, _⟩ => ⟨S16x4096x1024, .f32⟩
  | .hbm, ⟨24, _⟩ => ⟨S16x4096x1024, .f32⟩
  | .hbm, ⟨25, _⟩ => ⟨S1x1x1024, .f32⟩
  | .hbm, ⟨26, _⟩ => ⟨S16x4096x1024, .f32⟩
  | .hbm, ⟨27, _⟩ => ⟨S16x4096x1024, .f32⟩
  | .hbm, ⟨28, _⟩ => ⟨S16x1x1024, .f32⟩
  | .hbm, ⟨29, _⟩ => ⟨S_, .f32⟩
  | .hbm, ⟨30, _⟩ => ⟨S16x1x1024, .f32⟩
  | .hbm, ⟨31, _⟩ => ⟨S16x1x1024, .f32⟩
  | .hbm, ⟨32, _⟩ => ⟨S16x4096x1024, .f32⟩
  | .hbm, ⟨33, _⟩ => ⟨S16x4096x1024, .f32⟩
  | .hbm, ⟨34, _⟩ => ⟨S16x1x1024, .f32⟩
  | .hbm, ⟨35, _⟩ => ⟨S16x4096x1024, .f32⟩
  | .hbm, ⟨36, _⟩ => ⟨S16x4096x1024, .f32⟩
  | .hbm, ⟨37, _⟩ => ⟨S16x4096x5640, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S16x4096x1024, .f32⟩
  | .hbm, ⟨42, _⟩ => ⟨S16x4096x512, .f32⟩
  | .hbm, ⟨43, _⟩ => ⟨S16x4096x512, .f32⟩
  | .hbm, ⟨44, _⟩ => ⟨S16x4096x4, .f32⟩
  | .hbm, ⟨45, _⟩ => ⟨S16x4096x4, .f32⟩
  | .hbm, ⟨46, _⟩ => ⟨S16x4096x1024, .f32⟩
  | .hbm, ⟨47, _⟩ => ⟨S16x4096x1024, .f32⟩
  | .hbm, ⟨48, _⟩ => ⟨S1x1x4, .f32⟩
  | .hbm, ⟨49, _⟩ => ⟨S16x4096x4, .f32⟩
  | .hbm, ⟨50, _⟩ => ⟨S16x4096x4, .f32⟩
  | .hbm, ⟨51, _⟩ => ⟨S1x1x4, .f32⟩
  | .hbm, ⟨52, _⟩ => ⟨S16x4096x4, .f32⟩
  | .hbm, ⟨53, _⟩ => ⟨S16x4096x4, .f32⟩
  | .hbm, ⟨54, _⟩ => ⟨S16x4096x8, .f32⟩
  | .hbm, ⟨55, _⟩ => ⟨S16x4096x5632, .f32⟩
  | .hbm, ⟨56, _⟩ => ⟨S16x4096x5632, .bf16⟩
  | .hbm, ⟨57, _⟩ => ⟨S_, .i32⟩
  | .hbm, ⟨58, _⟩ => ⟨S_, .f32⟩
  | .hbm, ⟨59, _⟩ => ⟨S16x4096x128, .f32⟩
  | .hbm, ⟨60, _⟩ => ⟨S16x8x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c : Ref sig .tc := ⟨.hbm, 57, rfl⟩
abbrev main_call0_v0 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel3.lean ====
abbrev S16x4096x512 : Shape := ⟨3, ![16, 4096, 512]⟩
abbrev S16x4096x5632 : Shape := ⟨3, ![16, 4096, 5632]⟩
abbrev S16x4096x1024 : Shape := ⟨3, ![16, 4096, 1024]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S16x1024 : Shape := ⟨2, ![16, 1024]⟩
abbrev S16x1x1024 : Shape := ⟨3, ![16, 1, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 24
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x5632, .bf16⟩
  | .hbm, ⟨3, _⟩ => ⟨S16x4096x1024, .f32⟩
  | .hbm, ⟨4, _⟩ => ⟨S16x6144, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S16x4096x1024, .f32⟩
  | .hbm, ⟨26, _⟩ => ⟨S16x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .bf16⟩
  | .local _ .vmem, ⟨23, _⟩ => ⟨S1x512x1024, .bf16⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16x4096x512 : Shape := ⟨3, ![16, 4096, 512]⟩
abbrev S16x4096x5632 : Shape := ⟨3, ![16, 4096, 5632]⟩
abbrev S16x4096x1024 : Shape := ⟨3, ![16, 4096, 1024]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S16x1024 : Shape := ⟨2, ![16, 1024]⟩
abbrev S_ : Shape := ⟨0, ![]⟩
abbrev S16x1x1024 : Shape := ⟨3, ![16, 1, 1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x5632, .bf16⟩
  | .hbm, ⟨3, _⟩ => ⟨S16x4096x1024, .f32⟩
  | .hbm, ⟨4, _⟩ => ⟨S16x6144, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x4096x1024, .bf16⟩
  | .hbm, ⟨16, _⟩ => ⟨S16x4096x1024, .f32⟩
  | .hbm, ⟨17, _⟩ => ⟨S16x4096x1024, .bf16⟩
  | .hbm, ⟨18, _⟩ => ⟨S16x4096x1024, .f32⟩
  | .hbm, ⟨19, _⟩ => ⟨S16x4096x512, .f32⟩
  | .hbm, ⟨20, _⟩ => ⟨S16x4096x512, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S_, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x1x1024, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S_, .f32⟩
  | .hbm, ⟨49, _⟩ => ⟨S16x4096, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S_, .f32⟩
  | .hbm, ⟨55, _⟩ => ⟨S16x4096x1, .f32⟩
  | .hbm, ⟨56, _⟩ => ⟨S16x4096x1, .f32⟩
  | .hbm, ⟨57, _⟩ => ⟨S16x4096x1, .f32⟩
  | .hbm, ⟨58, _⟩ => ⟨S16x4096x1024, .f32⟩
  | .hbm, ⟨59, _⟩ => ⟨S16x4096x1024, .f32⟩
  | .hbm, ⟨60, _⟩ => ⟨S1x1x1024, .f32⟩
  | .hbm, ⟨61, _⟩ => ⟨S16x4096x1024, .f32⟩
  | .hbm, ⟨62, _⟩ => ⟨S16x4096x1024, .f32⟩
  | .hbm, ⟨63, _⟩ => ⟨S16x1x1024, .f32⟩
  | .hbm, ⟨64, _⟩ => ⟨S_, .f32⟩
  | .hbm, ⟨65, _⟩ => ⟨S16x1x1024, .f32⟩
  | .hbm, ⟨66, _⟩ => ⟨S16x1x1024, .f32⟩
  | .hbm, ⟨67, _⟩ => ⟨S16x4096x1024, .f32⟩
  | .hbm, ⟨68, _⟩ => ⟨S16x4096x1024, .f32⟩
  | .hbm, ⟨69, _⟩ => ⟨S16x1x1024, .f32⟩
  | .hbm, ⟨70, _⟩ => ⟨S16x4096x1024, .f32⟩
  | .hbm, ⟨71, _⟩ => ⟨S16x4096x1024, .f32⟩
  | .hbm, ⟨72, _⟩ => ⟨S16x4096x1024, .bf16⟩
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel4.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x512 : Shape := ⟨2, ![1024, 512]⟩
abbrev S1x512 : Shape := ⟨2, ![1, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S1024x2048 : Shape := ⟨2, ![1024, 2048]⟩
abbrev S8x2x128x128 : Shape := ⟨4, ![8, 2, 128, 128]⟩
abbrev S16x128x128 : Shape := ⟨3, ![16, 128, 128]⟩
abbrev S2048x1024 : Shape := ⟨2, ![2048, 1024]⟩
abbrev S1x128x128 : Shape := ⟨3, ![1, 128, 128]⟩
abbrev S1024x128 : Shape := ⟨2, ![1024, 128]⟩
abbrev S128x1024 : Shape := ⟨2, ![128, 1024]⟩
abbrev S128x128 : Shape := ⟨2, ![128, 128]⟩

abbrev nBuf : Space → Nat
  | .hbm => 4
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S8x2x128x128, .f32⟩
  | .hbm, ⟨2, _⟩ => ⟨S16x128x128, .f32⟩
  | .hbm, ⟨3, _⟩ => ⟨S2048x1024, .bf16⟩
  | .local _ .vmem, ⟨0, _⟩ => ⟨S1x128x128, .f32⟩
  | .local _ .vmem, ⟨1, _⟩ => ⟨S1x128x128, .f32⟩
  | .local _ .vmem, ⟨2, _⟩ => ⟨S1024x128, .f32⟩
  | .local _ .vmem, ⟨3, _⟩ => ⟨S1024x128, .f32⟩
  | .local _ .vmem, ⟨4, _⟩ => ⟨S128x1024, .bf16⟩
  | .local _ .vmem, ⟨5, _⟩ => ⟨S128x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S1024x2048 : Shape := ⟨2, ![1024, 2048]⟩
abbrev S8x2x128x128 : Shape := ⟨4, ![8, 2, 128, 128]⟩
abbrev S1024x8x2x128 : Shape := ⟨4, ![1024, 8, 2, 128]⟩
abbrev S8x2x128x1024 : Shape := ⟨4, ![8, 2, 128, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8x2x128x128, .f32⟩
  | .hbm, ⟨2, _⟩ => ⟨S1024x8x2x128, .f32⟩
  | .hbm, ⟨3, _⟩ => ⟨S8x2x128x1024, .f32⟩
  | .hbm, ⟨4, _⟩ => ⟨S2048x1024, .f32⟩
  | .hbm, ⟨5, _⟩ => ⟨S2048x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Attn.Block.lean ====
/- What one grid point of the attention call stores, as one function of its loaded tiles used twice: once for the
   upper and once for the lower 256 query rows. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Facts

variable {F : FTy → Type} [FloatOps F] [Named F]

/-- The lanes of the pair's second head. -/
def hiLanes : IVec S1x128 1 := xori k0_pay3 (constantI S1x128 1 1#1)

/-- A query tile with the lanes outside one head of the pair set to zero. -/
def headQ (lanes : IVec S1x128 1) (q : Vec F S1x256x128 .bf16) : FVec F S256x128 .bf16 :=
  select (broadcastTo S256x128 (shapeCast S1x128 lanes shapeCasts_S1x128_S1x128) broadcasts_S1x128_S256x128)
    (shapeCast S256x128 q shapeCasts_S1x256x128_S256x128) (broadcast S256x128 (Scalar.ofBits .bf16 0x0000#16))

/-- The scores of one head's queries against one key tile: scaled products plus the position bias. -/
def score (lanes : IVec S1x128 1) (q k : Vec F S1x256x128 .bf16) (b : Vec F S1x1x256x256 .f32) : FVec F S256x256 .f32 :=
  addf (mulf (matmul dot_S256x128_S256x128_S256x256_1_1_0_0_n_n none (headQ lanes q)
      (shapeCast S256x128 k shapeCasts_S1x256x128_S256x128) (constant S256x256 .f32 0x00000000#32))
    (broadcast S256x256 (Scalar.ofBits .f32 0x3E000000#32))) (shapeCast S256x256 b shapeCasts_S1x1x256x256_S256x256)

/-- Scores kept where the key tile exists, the mask's value where it would lie before the sequence. -/
def guarded (g : BitVec 1) (s : FVec F S256x256 .f32) : FVec F S256x256 .f32 :=
  Scalar.select g s (broadcast S256x256 (Named.named κ "mask" 0xF149F2CA#32))

/-- The largest score of each query row over the three key tiles. -/
def rowMax (s0 s1 s2 : FVec F S256x256 .f32) : FVec F S256x1 .f32 :=
  let mx : FVec F S256x256 .f32 → FVec F S256x1 .f32 := fun s =>
    shapeCast S256x1 (multiReduction .maximumf [1] S256 s 0xFF800000#32 reduces_S256x256_S256 (.inl rfl) rfl) shapeCasts_S256_S256x1
  maximumf (maximumf (mx s0) (mx s1)) (mx s2)

/-- The unnormalised weights of one key tile. -/
def weights (s : FVec F S256x256 .f32) (mx : FVec F S256x1 .f32) : FVec F S256x256 .f32 :=
  exp (subf s (broadcastTo S256x256 mx broadcasts_S256x1_S256x256))

/-- The row sums of one tile's weights. -/
def rowSum (s : FVec F S256x256 .f32) (mx : FVec F S256x1 .f32) : FVec F S256x1 .f32 :=
  shapeCast S256x1 (multiReduction .add [1] S256 (weights s mx) 0x00000000#32 reduces_S256x256_S256 (.inl rfl) rfl) shapeCasts_S256_S256x1

/-- One tile's weights applied to its values. -/
def weighted (s : FVec F S256x256 .f32) (mx : FVec F S256x1 .f32) (v : Vec F S1x256x128 .bf16) : FVec F S256x128 .f32 :=
  matmul dot_S256x256_S256x128_S256x128_1_0_0_1_n_n none (truncf .bf16 (weights s mx) bitsLt_bf16_f32)
    (shapeCast S256x128 v shapeCasts_S1x256x128_S256x128) (constant S256x128 .f32 0x00000000#32)

/-- One head's attention output over three key tiles, normalised after the weighted sum. -/
def headOut (s0 s1 s2 : FVec F S256x256 .f32) (v0 v1 v2 : Vec F S1x256x128 .bf16) : FVec F S256x128 .f32 :=
  let mx := rowMax s0 s1 s2
  divf (addf (addf (weighted s0 mx v0) (weighted s1 mx v1)) (weighted s2 mx v2))
    (broadcastTo S256x128 (addf (addf (rowSum s0 mx) (rowSum s1 mx)) (rowSum s2 mx)) broadcasts_S256x1_S256x128)

/-- The stored 256 rows: each lane from its own head. -/
def tileOut (g0 g1 : BitVec 1) (q k0 k1 k2 v0 v1 v2 : Vec F S1x256x128 .bf16)
    (a0 a1 a2 b0 b1 b2 : Vec F S1x1x256x256 .f32) : FVec F S1x256x128 .bf16 :=
  shapeCast S1x256x128 (truncf .bf16 (select
    (broadcastTo S256x128 (shapeCast S1x128 k0_pay3 shapeCasts_S1x128_S1x128) broadcasts_S1x128_S256x128)
    (headOut (guarded g0 (score k0_pay3 q k0 a0)) (guarded g1 (score k0_pay3 q k1 a1)) (score k0_pay3 q k2 a2) v0 v1 v2)
    (headOut (guarded g0 (score hiLanes q k0 b0)) (guarded g1 (score hiLanes q k1 b1)) (score hiLanes q k2 b2) v0 v1 v2))
    bitsLt_bf16_f32) shapeCasts_S256x128_S1x256x128

/-- Whether key tile `2 - n` tiles back exists for query tile `2 * i + qq`. -/
def exists_ (i qq n : BitVec 32) : BitVec 1 := Scalar.cmpi .sge (Scalar.addi (Scalar.muli i 2#32) qq) n

/-- The two stores of a grid point are `tileOut` of its two query tiles. -/
theorem out_eq (i : grid0.Coords) (x0 : Vec F S1x512x128 .bf16) (x1 x2 x3 x4 x5 x6 x7 x8 : Vec F S1x256x128 .bf16) (x9 : Vec F S2x3x256x256 .f32) :
    out0_10 i x0 x1 x2 x3 x4 x5 x6 x7 x8 x9 =
      View.canon [⟨r0_1, tileOut (exists_ (BitVec.ofNat 32 (i 2).val) 1#32 2#32) (exists_ (BitVec.ofNat 32 (i 2).val) 1#32 1#32) (View.ld x0 r0_1)
          (View.ld x2 r0_2) (View.ld x3 r0_2) (View.ld x4 r0_2) (View.ld x6 r0_2) (View.ld x7 r0_2) (View.ld x8 r0_2)
          (View.ld x9 r0_3) (View.ld x9 r0_5) (View.ld x9 r0_7) (View.ld x9 r0_4) (View.ld x9 r0_6) (View.ld x9 r0_8)⟩,
        ⟨r0_0, tileOut (exists_ (BitVec.ofNat 32 (i 2).val) 0#32 2#32) (exists_ (BitVec.ofNat 32 (i 2).val) 0#32 1#32) (View.ld x0 r0_0)
          (View.ld x1 r0_2) (View.ld x2 r0_2) (View.ld x3 r0_2) (View.ld x5 r0_2) (View.ld x6 r0_2) (View.ld x7 r0_2)
          (View.ld x9 r0_3) (View.ld x9 r0_5) (View.ld x9 r0_7) (View.ld x9 r0_4) (View.ld x9 r0_6) (View.ld x9 r0_8)⟩] := by
  unfold_out out0_10
  rfl

end Cert.KernelIdeal.Attn
end
-- ==== Proof.Attn.Math.lean ====
/- Attention over the extended reals: the softmax average over all keys equals the average normalised after the
   weighted sum over the keys that can be seen. -/
module

public import Idealize.ShloMosaic.Lib.Pipeline.ValueKit
public import Idealize.ShloMosaic.Lib.Pointwise

@[expose] public section

noncomputable section

namespace BandAttn

open Idealize.ShloMosaic Finset

/-- The softmax of the scores `f`, averaged against `v`: each weight is divided by the weights' sum. -/
def softAvg {n : ℕ} (f v : Fin n → EReal) : EReal :=
  ∑ K, Ideal.div (Ideal.exp (f K - univ.fold max ⊥ f)) (∑ K', Ideal.exp (f K' - univ.fold max ⊥ f)) * v K

theorem fold_max {ι : Type} (s : Finset ι) (f : ι → EReal) : s.fold max ⊥ f = s.sup f := rfl

theorem exp_nonneg (x : EReal) : 0 ≤ Ideal.exp x := by
  induction x using EReal.rec with
  | bot => exact le_rfl
  | top => exact le_top
  | coe r => exact EReal.coe_nonneg.mpr (Real.exp_pos r).le

theorem bot_sub' (x : EReal) : (⊥ : EReal) - x = ⊥ := by rw [sub_eq_add_neg, EReal.bot_add]

/-- A masked score has weight zero. -/
theorem exp_bot_sub (x : EReal) : Ideal.exp (⊥ - x) = 0 := by rw [bot_sub']; rfl

/-- A sum over 4096 keys of which only those of three consecutive tiles of 256 contribute. -/
theorem sum_window (W : Fin 4096 → EReal) (B : ℕ) (hB : B < 16)
    (hW : ∀ K : Fin 4096, K.val / 256 + 2 < B ∨ B < K.val / 256 → W K = 0) (G : Fin 3 → Fin 256 → EReal)
    (hG : ∀ (c : Fin 3) (j : Fin 256) (h : 2 ≤ B + c.val), G c j = W ⟨(B + c.val - 2) * 256 + j.val, by omega⟩)
    (hG0 : ∀ (c : Fin 3) (j : Fin 256), B + c.val < 2 → G c j = 0) :
    ∑ K, W K = ∑ j, G 0 j + ∑ j, G 1 j + ∑ j, G 2 j := by
  have h1 : ∑ K, W K = ∑ a : Fin 16, ∑ j : Fin 256, W ⟨a.val * 256 + j.val, by omega⟩ := by
    have h := Fin.sum_univ_univ_mul_add 16 256 (fun n => if h : n < 4096 then W ⟨n, h⟩ else 0)
    have h' : ∀ l : Fin (16 * 256), (if h : l.val < 4096 then W ⟨l.val, h⟩ else 0) = W l := fun l => dif_pos l.isLt
    rw [show ∑ K, W K = ∑ l : Fin (16 * 256), (if h : l.val < 4096 then W ⟨l.val, h⟩ else 0) from
      (sum_congr rfl fun l _ => h' l).symm, ← h]
    exact sum_congr rfl fun a _ => sum_congr rfl fun j _ => dif_pos (by omega)
  have h2 : ∀ a : Fin 16, (∑ j : Fin 256, W ⟨a.val * 256 + j.val, by omega⟩)
      = ∑ c : Fin 3, if a.val + 2 = B + c.val then ∑ j, G c j else 0 := by
    intro a
    by_cases ha : a.val + 2 < B ∨ B < a.val
    · rw [sum_eq_zero fun j _ => hW _ (by simp only; omega), sum_eq_zero fun c _ => if_neg (by omega)]
    · rw [sum_eq_single (⟨a.val + 2 - B, by omega⟩ : Fin 3) (fun c _ hc => if_neg fun h => hc (Fin.ext (by simp only; omega)))
        (fun h => absurd (mem_univ _) h), if_pos (by simp only; omega)]
      refine sum_congr rfl fun j _ => ?_
      rw [hG _ j (by simp only; omega)]
      exact congrArg W (Fin.ext (by simp only; omega))
  rw [h1, sum_congr rfl fun a _ => h2 a, sum_comm, ← Fin.sum_univ_three (fun c => ∑ j, G c j)]
  refine sum_congr rfl fun c _ => ?_
  by_cases hc : 2 ≤ B + c.val
  · rw [sum_eq_single (⟨B + c.val - 2, by omega⟩ : Fin 16) (fun a _ ha => if_neg fun h => ha (Fin.ext (by simp only; omega)))
      (fun h => absurd (mem_univ _) h), if_pos (by simp only; omega)]
  · rw [sum_eq_zero fun a _ => if_neg (by omega), sum_eq_zero fun j _ => hG0 c j (by omega)]

/-- The largest score over all keys is the largest over the three tiles, scores elsewhere being masked. -/
theorem max_window (f : Fin 4096 → EReal) (B : ℕ) (hB : B < 16)
    (hf : ∀ K : Fin 4096, K.val / 256 + 2 < B ∨ B < K.val / 256 → f K = ⊥) (g : Fin 3 → Fin 256 → EReal)
    (hg : ∀ (c : Fin 3) (j : Fin 256) (h : 2 ≤ B + c.val), g c j = f ⟨(B + c.val - 2) * 256 + j.val, by omega⟩)
    (hg0 : ∀ (c : Fin 3) (j : Fin 256), B + c.val < 2 → g c j = ⊥) :
    max (max (univ.fold max ⊥ (g 0)) (univ.fold max ⊥ (g 1))) (univ.fold max ⊥ (g 2)) = univ.fold max ⊥ f := by
  simp only [fold_max]
  have hle : ∀ c : Fin 3, univ.sup (g c) ≤ univ.sup f := fun c => Finset.sup_le fun j _ => by
    by_cases hc : 2 ≤ B + c.val
    · rw [hg c j hc]; exact le_sup (f := f) (mem_univ _)
    · rw [hg0 c j (by omega)]; exact bot_le
  have hc : ∀ c : Fin 3, univ.sup (g c) ≤ max (max (univ.sup (g 0)) (univ.sup (g 1))) (univ.sup (g 2)) := by
    intro c
    match c with
    | ⟨0, _⟩ => exact (le_max_left _ _).trans (le_max_left _ _)
    | ⟨1, _⟩ => exact (le_max_right _ _).trans (le_max_left _ _)
    | ⟨2, _⟩ => exact le_max_right _ _
  refine le_antisymm (max_le (max_le (hle 0) (hle 1)) (hle 2)) (Finset.sup_le fun K _ => ?_)
  by_cases hK : K.val / 256 + 2 < B ∨ B < K.val / 256
  · rw [hf K hK]; exact bot_le
  · refine le_trans ?_ (hc ⟨K.val / 256 + 2 - B, by omega⟩)
    have h := hg ⟨K.val / 256 + 2 - B, by omega⟩ ⟨K.val % 256, by omega⟩ (by simp only; omega)
    rw [show f K = g ⟨K.val / 256 + 2 - B, by omega⟩ ⟨K.val % 256, by omega⟩ from
      (congrArg f (Fin.ext (by simp only; omega))).trans h.symm]
    exact le_sup (f := g _) (mem_univ _)

/-- Multiplying by a real number distributes over a sum of extended reals when the number is not negative. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [sum_insert ha, sum_insert ha, ← ih, EReal.right_distrib_of_nonneg_of_ne_top (EReal.coe_nonneg.mpr hr) (EReal.coe_ne_top r)]

/-- The weights' sum is a positive real when no score is `+∞` and some score is finite. -/
theorem sum_exp_real {n : ℕ} (f : Fin n → EReal) (htop : ∀ K, f K ≠ ⊤) (T : Fin n) (hT : f T ≠ ⊥) :
    ∃ L : ℝ, 0 < L ∧ ∑ K, Ideal.exp (f K - univ.fold max ⊥ f) = (L : EReal) := by
  rw [fold_max]
  have hMbot : univ.sup f ≠ ⊥ := fun h => hT (le_bot_iff.mp (h ▸ le_sup (f := f) (mem_univ T)))
  have hMtop : univ.sup f ≠ ⊤ := ((Finset.sup_lt_iff (by exact bot_lt_top)).mpr fun K _ => lt_top_iff_ne_top.mpr (htop K)).ne
  obtain ⟨M, hM⟩ : ∃ M : ℝ, (M : EReal) = univ.sup f := ⟨_, EReal.coe_toReal hMtop hMbot⟩
  rw [← hM]
  have hterm : ∀ K, ∃ r : ℝ, 0 ≤ r ∧ Ideal.exp (f K - (M : EReal)) = (r : EReal) ∧ (f K ≠ ⊥ → 0 < r) := by
    intro K
    have h := htop K
    revert h
    induction f K using EReal.rec with
    | bot => exact fun _ => ⟨0, le_rfl, exp_bot_sub _, fun h => absurd rfl h⟩
    | top => exact fun h => absurd rfl h
    | coe x => exact fun _ => ⟨Real.exp (x - M), (Real.exp_pos _).le, rfl, fun _ => Real.exp_pos _⟩
  choose r hr0 hr hpos using hterm
  refine ⟨∑ K, r K, sum_pos' (fun K _ => hr0 K) ⟨T, mem_univ _, hpos T hT⟩, ?_⟩
  rw [sum_congr rfl fun K _ => hr K]
  exact (map_sum (⟨⟨Real.toEReal, rfl⟩, fun a b => EReal.coe_add a b⟩ : ℝ →+ EReal) r univ).symm

/-- The softmax average over all 4096 keys is the sum of the three tiles' weighted values over the sum of their
    weights, when every key outside the tiles is masked. -/
theorem window_eq (f v : Fin 4096 → EReal) (B : ℕ) (hB : B < 16)
    (hf : ∀ K : Fin 4096, K.val / 256 + 2 < B ∨ B < K.val / 256 → f K = ⊥)
    (htop : ∀ K, f K ≠ ⊤) (T : Fin 4096) (hT : f T ≠ ⊥) (g w : Fin 3 → Fin 256 → EReal)
    (hg : ∀ (c : Fin 3) (j : Fin 256) (h : 2 ≤ B + c.val), g c j = f ⟨(B + c.val - 2) * 256 + j.val, by omega⟩)
    (hg0 : ∀ (c : Fin 3) (j : Fin 256), B + c.val < 2 → g c j = ⊥)
    (hw : ∀ (c : Fin 3) (j : Fin 256) (h : 2 ≤ B + c.val), w c j = v ⟨(B + c.val - 2) * 256 + j.val, by omega⟩)
    (M : EReal) (hM : M = max (max (univ.fold max ⊥ (g 0)) (univ.fold max ⊥ (g 1))) (univ.fold max ⊥ (g 2))) :
    Ideal.div (∑ j, Ideal.exp (g 0 j - M) * w 0 j + ∑ j, Ideal.exp (g 1 j - M) * w 1 j + ∑ j, Ideal.exp (g 2 j - M) * w 2 j)
      (∑ j, Ideal.exp (g 0 j - M) + ∑ j, Ideal.exp (g 1 j - M) + ∑ j, Ideal.exp (g 2 j - M)) = softAvg f v := by
  rw [max_window f B hB hf g hg hg0] at hM
  obtain ⟨L, hL, hsum⟩ := sum_exp_real f htop T hT
  have hL0 : (L : EReal) ≠ 0 := fun h => hL.ne' (EReal.coe_eq_zero.mp h)
  rw [← hM] at hsum
  rw [← sum_window (fun K => Ideal.exp (f K - M)) B hB (fun K hK => by rw [hf K hK, exp_bot_sub])
      (fun c j => Ideal.exp (g c j - M)) (fun c j h => by rw [hg c j h]) (fun c j h => by rw [hg0 c j h, exp_bot_sub]),
    ← sum_window (fun K => Ideal.exp (f K - M) * v K) B hB (fun K hK => by rw [hf K hK, exp_bot_sub, zero_mul])
      (fun c j => Ideal.exp (g c j - M) * w c j) (fun c j h => by rw [hg c j h, hw c j h])
      (fun c j h => by rw [hg0 c j h, exp_bot_sub, zero_mul])]
  unfold softAvg
  rw [← hM, hsum]
  unfold Ideal.div
  rw [if_neg hL0]
  simp only [if_neg hL0]
  rw [← EReal.coe_inv, sum_mul_coe _ _ _ (inv_nonneg.mpr hL.le)]
  exact sum_congr rfl fun K _ => mul_right_comm _ _ _

/-- A sum of products of finite numbers is finite. -/
theorem sum_mul_finite {ι : Type} (s : Finset ι) (a b : ι → EReal) (ha : ∀ i, ∃ r : ℝ, a i = r) (hb : ∀ i, ∃ r : ℝ, b i = r) :
    ∃ r : ℝ, ∑ i ∈ s, a i * b i = r := by
  choose x hx using ha
  choose y hy using hb
  refine ⟨∑ i ∈ s, x i * y i, ?_⟩
  rw [sum_congr rfl fun i _ => by rw [hx i, hy i, ← EReal.coe_mul]]
  exact (map_sum (⟨⟨Real.toEReal, rfl⟩, fun a b => EReal.coe_add a b⟩ : ℝ →+ EReal) (fun i => x i * y i) s).symm

end BandAttn
end
-- ==== Proof.Attn.Spec.lean ====
/- What the attention call computes, index by index: chunked causal attention with a clipped relative bias. -/
module

public import proofs.«01_k».proof.Proof.Attn.Math
public import proofs.«01_k».proof.Proof.Gen.KernelIdeal.Value

@[expose] public section

noncomputable section

open Idealize.ShloMosaic

namespace BandAttn

open Cert.KernelIdeal

/-- The score of key `K` for query `T` in head `h` of batch row `b`: the scaled dot product of the head's columns plus the
    bias at the clipped distance, when the key lies in the query's chunk or one of the eight before it; minus infinity
    otherwise. -/
def score (proj : Vec Ideal S16x4096x5632 .bf16) (rel : Vec Ideal S8x257 .f32) (b : Fin 16) (h : Fin 8) (T K : Fin 4096) : EReal :=
  if K.val / 64 ≤ T.val / 64 ∧ T.val / 64 ≤ K.val / 64 + 8 then
    (∑ d : Fin 64, proj (ix3 b T ⟨2048 + (h.val * 64 + d.val), by omega⟩) * proj (ix3 b K ⟨2560 + (h.val * 64 + d.val), by omega⟩))
        * Ideal.ofBits .f32 0x3E000000#32
      + rel (ix2 h ⟨min (T.val + 128 - K.val) 256, by omega⟩)
  else ⊥

/-- The head a column of the result belongs to. -/
abbrev head (l : Fin 512) : Fin 8 := ⟨l.val / 64, by omega⟩

/-- The attention's result: the softmax over all keys of the scores, averaged against the value column. -/
def attnAt (proj : Vec Ideal S16x4096x5632 .bf16) (rel : Vec Ideal S8x257 .f32) : Vec Ideal S16x4096x512 .bf16 :=
  fun y => softAvg (score proj rel (y 0) (head (y 2)) (y 1)) (fun K => proj (ix3 (y 0) K ⟨3072 + (y 2).val, by have := (y 2).isLt; change (y 2).val < 512 at this; omega⟩))

theorem negInf : Ideal.ofBits .f32 0xFF800000#32 = ⊥ := by simp [Ideal.ofBits, Ideal.ieee]

end BandAttn
end
-- ==== Proof.Attn.TileAt.lean ====
/- The kernel's tile computations read at an index. -/
module

public import proofs.«01_k».proof.Proof.Attn.Block
public import proofs.«01_k».proof.Proof.Attn.Spec

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Facts

/-- The comparison of a lane number with 64, as a bit. -/
theorem lane_word : ∀ x : Fin 128, IntOp.cmpi .slt (BitVec.ofNat 32 x.val) 64#32 = if x.val < 64 then 1#1 else 0#1 := by
  decide +kernel

theorem lane_word_not : ∀ x : Fin 128, IntOp.xori (IntOp.cmpi .slt (BitVec.ofNat 32 x.val) 64#32) 1#1 = if x.val < 64 then 0#1 else 1#1 := by
  decide +kernel

/-- A sum over the pair's 128 lanes with the second head's lanes set to zero is the sum over the first head's 64. -/
theorem sum_lo (f : Fin 128 → EReal) :
    ∑ x : Fin 128, Scalar.select (IntOp.cmpi .slt (BitVec.ofNat 32 x.val) 64#32) (f x) 0 = ∑ d : Fin 64, f ⟨d.val, by omega⟩ := by
  have e := Fin.sum_univ_add (a := 64) (b := 64) fun x : Fin 128 => Scalar.select (IntOp.cmpi .slt (BitVec.ofNat 32 x.val) 64#32) (f x) 0
  refine e.trans ((congrArg₂ (· + ·) (Finset.sum_congr rfl fun d _ => ?_) (Finset.sum_eq_zero fun d _ => ?_)).trans (add_zero _))
  · rw [lane_word, if_pos (by simp)]; rfl
  · rw [lane_word, if_neg (by simp)]; rfl

/-- A sum over the pair's 128 lanes with the first head's lanes set to zero is the sum over the second head's 64. -/
theorem sum_hi (f : Fin 128 → EReal) :
    ∑ x : Fin 128, Scalar.select (IntOp.xori (IntOp.cmpi .slt (BitVec.ofNat 32 x.val) 64#32) 1#1) (f x) 0 = ∑ d : Fin 64, f ⟨64 + d.val, by omega⟩ := by
  have e := Fin.sum_univ_add (a := 64) (b := 64) fun x : Fin 128 => Scalar.select (IntOp.xori (IntOp.cmpi .slt (BitVec.ofNat 32 x.val) 64#32) 1#1) (f x) 0
  refine e.trans ((congrArg₂ (· + ·) (Finset.sum_eq_zero fun d _ => ?_) (Finset.sum_congr rfl fun d _ => ?_)).trans (zero_add _))
  · rw [lane_word_not, if_pos (by simp)]; rfl
  · rw [lane_word_not, if_neg (by simp)]; rfl

/-- A score of the pair's first head. -/
theorem score_lo (q k : Vec Ideal S1x256x128 .bf16) (b : Vec Ideal S1x1x256x256 .f32) (r j : Fin 256) :
    score k0_pay3 q k b (ix2 r j)
      = (∑ d : Fin 64, q (ix3 0 r ⟨d.val, by omega⟩) * k (ix3 0 j ⟨d.val, by omega⟩)) * Ideal.ofBits .f32 0x3E000000#32 + b (ix4 0 0 r j) := by
  pointwise [score, headQ, k0_pay3]
  rw [sum_lo]

/-- A score of the pair's second head. -/
theorem score_hi (q k : Vec Ideal S1x256x128 .bf16) (b : Vec Ideal S1x1x256x256 .f32) (r j : Fin 256) :
    score hiLanes q k b (ix2 r j)
      = (∑ d : Fin 64, q (ix3 0 r ⟨64 + d.val, by omega⟩) * k (ix3 0 j ⟨64 + d.val, by omega⟩)) * Ideal.ofBits .f32 0x3E000000#32 + b (ix4 0 0 r j) := by
  pointwise [score, headQ, k0_pay3, hiLanes]
  rw [sum_hi]

/-- A guarded score: minus infinity where the key tile does not exist. -/
theorem guarded_at (g : BitVec 1) (s : FVec Ideal S256x256 .f32) (r j : Fin 256) :
    guarded g s (ix2 r j) = if g = 1#1 then s (ix2 r j) else (⊥ : EReal) := by
  pointwise [guarded]
  rfl

/-- The normalised output of one head in the form of `BandAttn.window_eq`. -/
theorem headOut_at (s : Fin 3 → FVec Ideal S256x256 .f32) (v : Fin 3 → Vec Ideal S1x256x128 .bf16) (r : Fin 256) (l : Fin 128) :
    headOut (s 0) (s 1) (s 2) (v 0) (v 1) (v 2) (ix2 r l)
      = let M := max (max (Finset.univ.fold max ⊥ fun j => s 0 (ix2 r j)) (Finset.univ.fold max ⊥ fun j => s 1 (ix2 r j)))
          (Finset.univ.fold max ⊥ fun j => s 2 (ix2 r j))
        Ideal.div (∑ j : Fin 256, Ideal.exp (s 0 (ix2 r j) - M) * v 0 (ix3 0 j l) + ∑ j : Fin 256, Ideal.exp (s 1 (ix2 r j) - M) * v 1 (ix3 0 j l)
            + ∑ j : Fin 256, Ideal.exp (s 2 (ix2 r j) - M) * v 2 (ix3 0 j l))
          (∑ j : Fin 256, Ideal.exp (s 0 (ix2 r j) - M) + ∑ j : Fin 256, Ideal.exp (s 1 (ix2 r j) - M)
            + ∑ j : Fin 256, Ideal.exp (s 2 (ix2 r j) - M)) := by
  pointwise [headOut, weighted, weights, rowSum, rowMax]
  rw [BandAttn.negInf]

/-- The stored tile: each lane from its own head. -/
theorem tileOut_at (g0 g1 : BitVec 1) (q k0 k1 k2 v0 v1 v2 : Vec Ideal S1x256x128 .bf16)
    (a0 a1 a2 b0 b1 b2 : Vec Ideal S1x1x256x256 .f32) (r : Fin 256) (l : Fin 128) :
    tileOut g0 g1 q k0 k1 k2 v0 v1 v2 a0 a1 a2 b0 b1 b2 (ix3 0 r l)
      = if l.val < 64 then
          headOut (guarded g0 (score k0_pay3 q k0 a0)) (guarded g1 (score k0_pay3 q k1 a1)) (score k0_pay3 q k2 a2) v0 v1 v2 (ix2 r l)
        else headOut (guarded g0 (score hiLanes q k0 b0)) (guarded g1 (score hiLanes q k1 b1)) (score hiLanes q k2 b2) v0 v1 v2 (ix2 r l) := by
  unfold tileOut
  generalize headOut (guarded g0 (score k0_pay3 q k0 a0)) _ _ _ _ _ = A
  generalize headOut (guarded g0 (score hiLanes q k0 b0)) _ _ _ _ _ = B
  pointwise [k0_pay3]
  rw [lane_word]
  split <;> rfl

end Cert.KernelIdeal.Attn
end
-- ==== Proof.Attn.Bias.lean ====
module

public import proofs.«01_k».proof.Proof.Attn.Block

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Facts

abbrev gd := gather_S8x257_S1024x1_S8x1024_0_1_n_n_1_1_81

theorem gather_at {α : Type} (x : S8x257.Idx → α) (idx : IVec S1024x1 32) (h : Fin 8) (d : Fin 1024) :
    Host.gather gd x idx (ix2 h d) = x (ix2 h ⟨min (idx (ix2 d 0)).toInt.toNat 256, by omega⟩) := by
  unfold Host.gather
  congr 1
  funext a
  refine Fin.ext ?_
  show gd.start (ix2 h d) idx a + gd.batchCoord (ix2 h d) a + gd.offCoord (ix2 h d) a = _
  have h01 : a = (0 : Fin 2) ∨ a = (1 : Fin 2) := by
    match a with
    | ⟨0, _⟩ => exact Or.inl rfl
    | ⟨1, _⟩ => exact Or.inr rfl
  rw [GatherDims.batchCoord_eq_zero _ _ _ List.not_mem_nil]
  rcases h01 with rfl | rfl
  · have hs : gd.start (ix2 h d) idx (0 : Fin 2) = 0 := by
      unfold GatherDims.start; exact dif_neg (by decide)
    rw [hs]
    unfold GatherDims.offCoord
    have e (n : Nat) (hn : n < gd.offsetDims.length) : gd.offsetDims[n] = (0 : Fin 2) :=
      List.mem_singleton.mp (List.getElem_mem hn)
    rw [dif_pos (by decide), e]
    exact Nat.zero_add _
  · rw [GatherDims.offCoord_eq_zero _ _ _ (fun h => ((GatherDims.mem_sKept _ _).mp h).1 (List.mem_singleton.mpr rfl))]
    unfold GatherDims.start
    rw [dif_pos (show (1 : Fin 2) ∈ gd.startIndexMap from List.mem_singleton.mpr rfl)]
    have hsi : gd.siIdx (ix2 h d) ⟨List.idxOf (1 : Fin 2) gd.startIndexMap,
        List.idxOf_lt_length_iff.2 (List.mem_singleton.mpr rfl)⟩ = ix2 d 0 := by
      funext b; refine Fin.ext ?_
      match b with
      | ⟨0, _⟩ => rfl
      | ⟨1, _⟩ => rfl
    rw [hsi]
    rfl

/-- `x / 64` rounded down, as an array of 32-bit words: the quotient rounded to zero, one less where the signs differ and
    the remainder is not zero. -/
def floor64 {s : Shape} (h : S_.BroadcastsInDim s ![]) (x : IVec s 32) : IVec s 32 :=
  let d : IVec s 32 := broadcastInDim s ![] h (constantI S_ 32 64#32)
  select (andi (cmpi .ne (signi x) (broadcastInDim s ![] h (signi (constantI S_ 32 64#32))))
      (cmpi .ne (Host.remsi x d) (broadcastInDim s ![] h (constantI S_ 32 0#32))))
    (subi (Host.divsi x d) (broadcastInDim s ![] h (constantI S_ 32 1#32))) (Host.divsi x d)

/-- The column of the bias table each of the 1024 diagonals reads. -/
def diagCol : IVec S1024 32 :=
  let n : IVec S1024 32 := iotaInDim S1024 32 0
  let k (w : BitVec 32) : IVec S1024 32 := broadcastInDim S1024 ![] bcast_S_S1024 (constantI S_ 32 w)
  let a := addi (minsi (k 128#32) (maxsi (k 4294967168#32) (subi (k 512#32) (select (cmpi .slt n (k 768#32)) n (subi n (k 1024#32)))))) (k 128#32)
  select (cmpi .slt a (k 0#32)) (addi a (k 257#32)) a

/-- The table's entries laid out along the diagonals of a 256 by 768 band. -/
def band (rel : FVec Ideal S8x257 .f32) : FVec Ideal S8x256x768 .f32 :=
  extractStridedSlice S8x256x768 ![0, 0, 0]
    (shapeCast S8x256x1023
      (extractStridedSlice S8x261888 ![0, 0]
        (shapeCast S8x262144
          (broadcastInDim S1x8x256x1024 ![0, 1, 2, 3] bcast_S1x8x1x1024_S1x8x256x1024_0_1_2_3
            (shapeCast S1x8x1x1024
              (Host.gather gd rel (broadcastInDim S1024x1 ![0] bcast_S1024_S1024x1_0 diagCol))
              shapeCasts_S8x1024_S1x8x1x1024))
          shapeCasts_S1x8x256x1024_S8x262144)
        slices_S8x262144_S8x261888_0_0)
      shapeCasts_S8x261888_S8x256x1023)
    slices_S8x256x1023_S8x256x768_0_0_0

/-- The chunk of each of a block's 256 queries. -/
def qChunk : IVec S256x1 32 :=
  floor64 bcast_S_S256x1 (broadcastInDim S256x1 ![0] bcast_S256_S256x1_0 (iotaInDim S256 32 0))

/-- The chunk of each of the 768 keys, counted from the queries' block. -/
def kChunk : IVec S1x768 32 :=
  floor64 bcast_S_S1x768 (subi (broadcastInDim S1x768 ![1] bcast_S768_S1x768_1 (iotaInDim S768 32 0))
    (broadcastInDim S1x768 ![] bcast_S_S1x768 (constantI S_ 32 512#32)))

/-- Which keys of the band a query sees. -/
def sees : IVec S256x768 1 :=
  andi
    (cmpi .sle (broadcastInDim S256x768 ![0, 1] bcast_S1x768_S256x768_0_1 kChunk)
      (broadcastInDim S256x768 ![0, 1] bcast_S256x1_S256x768_0_1 qChunk))
    (cmpi .sge (broadcastInDim S256x768 ![0, 1] bcast_S1x768_S256x768_0_1 kChunk)
      (broadcastInDim S256x768 ![0, 1] bcast_S256x1_S256x768_0_1
        (subi qChunk (broadcastInDim S256x1 ![] bcast_S_S256x1 (constantI S_ 32 8#32)))))

/-- The bias blocks the kernel reads: the band, minus infinity where the query does not see the key. -/
def biasArr (rel : FVec Ideal S8x257 .f32) : FVec Ideal S8x3x256x256 .f32 :=
  transpose S8x3x256x256 [0, 2, 1, 3]
    (shapeCast S8x256x3x256
      (select
        (broadcastInDim S8x256x768 ![0, 1, 2] bcast_S1x256x768_S8x256x768_0_1_2
          (broadcastInDim S1x256x768 ![1, 2] bcast_S256x768_S1x256x768_1_2 sees))
        (band rel)
        (broadcastInDim S8x256x768 ![] bcast_S_S8x256x768 (constant (F := Ideal) S_ .f32 0xFF800000#32)))
      shapeCasts_S8x256x768_S8x256x3x256)
    transposes_S8x256x3x256_S8x3x256x256_0_2_1_3

/-- The table column of a diagonal, as a number. -/
theorem diagCol_at : ∀ d : Fin 1024,
    min (diagCol (ix1 d)).toInt.toNat 256 = min (if d.val < 768 then 640 - d.val else 256) 256 := by
  intro d
  pointwise [diagCol]
  revert d
  decide +kernel

theorem qChunk_at : ∀ r : Fin 256, qChunk (ix2 r 0) = BitVec.ofNat 32 (r.val / 64) := by
  intro r
  pointwise [qChunk, floor64]
  revert r
  decide +kernel

theorem kChunk_at : ∀ k : Fin 768, kChunk (ix2 0 k) = BitVec.ofNat 32 (k.val / 64) - 8#32 := by
  intro k
  pointwise [kChunk, floor64]
  revert k
  decide +kernel

/-- Comparing chunks as words is comparing them as numbers. -/
theorem sees_word : ∀ (a : Fin 4) (b : Fin 12),
    IntOp.andi (IntOp.cmpi .sle (BitVec.ofNat 32 b.val - 8#32) (BitVec.ofNat 32 a.val))
        (IntOp.cmpi .sge (BitVec.ofNat 32 b.val - 8#32) (IntOp.subi (BitVec.ofNat 32 a.val) 8#32))
      = if b.val ≤ a.val + 8 ∧ a.val ≤ b.val then 1#1 else 0#1 := by decide +kernel

/-- A query sees the keys of its own chunk and of the eight before it. -/
theorem sees_at (r : Fin 256) (k : Fin 768) :
    sees (ix2 r k) = if k.val / 64 ≤ r.val / 64 + 8 ∧ r.val / 64 ≤ k.val / 64 then 1#1 else 0#1 := by
  pointwise [sees, qChunk_at, kChunk_at]
  exact sees_word ⟨r.val / 64, by omega⟩ ⟨k.val / 64, by omega⟩

/-- The band at a query and a key: the table's entry at their clipped distance. -/
theorem band_at (rel : FVec Ideal S8x257 .f32) (h : Fin 8) (r : Fin 256) (k : Fin 768) :
    band rel (ix3 h r k) = rel (ix2 h ⟨min (640 + r.val - k.val) 256, by omega⟩) := by
  pointwise [band, gather_at]
  refine congrArg rel (congrArg (ix2 h) (Fin.ext ?_))
  refine (diagCol_at _).trans ?_
  dsimp only
  have hr := r.isLt
  have hk := k.isLt
  rcases Nat.lt_or_ge k.val r.val with h | h
  · have e : (r.val * 1023 + k.val) % 1024 = 1024 + k.val - r.val := by omega
    split <;> omega
  · have e : (r.val * 1023 + k.val) % 1024 = k.val - r.val := by omega
    split <;> omega

theorem negInf : Ideal.ofBits .f32 0xFF800000#32 = ⊥ := by simp [Ideal.ofBits, Ideal.ieee]

/-- The bias block at a query and a key. -/
theorem biasArr_at (rel : FVec Ideal S8x257 .f32) (h : Fin 8) (c : Fin 3) (r j : Fin 256) :
    biasArr rel (ix4 h c r j)
      = if (c.val * 256 + j.val) / 64 ≤ r.val / 64 + 8 ∧ r.val / 64 ≤ (c.val * 256 + j.val) / 64
        then rel (ix2 h ⟨min (640 + r.val - (c.val * 256 + j.val)) 256, by omega⟩) else (⊥ : EReal) := by
  pointwise [biasArr]
  rw [sees_at, band_at]
  dsimp only
  split
  · rfl
  · exact negInf

end Cert.KernelIdeal.Attn
end
-- ==== Proof.Attn.Window.lean ====
/- One stored tile of the attention kernel is the attention of its rows, whenever the blocks it reads are the blocks of
   the projection and of the prepared bias. -/
module

public import proofs.«01_k».proof.Proof.Attn.TileAt
public import proofs.«01_k».proof.Proof.Attn.Bias

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Facts
open BandAttn (softAvg attnAt window_eq sum_mul_finite)

/-- The query and key columns of the projection, and the relative bias, hold real numbers. -/
structure Finite (proj : Vec Ideal S16x4096x5632 .bf16) (rel : Vec Ideal S8x257 .f32) : Prop where
  qk : ∀ (b : Fin 16) (T : Fin 4096) (l : Fin 1024), ∃ r : ℝ, proj (ix3 b T ⟨2048 + l.val, by omega⟩) = r
  rel : ∀ (h : Fin 8) (j : Fin 257), ∃ r : ℝ, rel (ix2 h j) = r

/-- Under finiteness a visible score is a real number. -/
theorem visible_real {proj : Vec Ideal S16x4096x5632 .bf16} {rel : Vec Ideal S8x257 .f32} (hfin : Finite proj rel)
    (b : Fin 16) (h : Fin 8) (T K : Fin 4096) (j : Fin 257) :
    ∃ r : ℝ, (∑ d : Fin 64, proj (ix3 b T ⟨2048 + (h.val * 64 + d.val), by omega⟩) * proj (ix3 b K ⟨2560 + (h.val * 64 + d.val), by omega⟩))
        * Ideal.ofBits .f32 0x3E000000#32 + rel (ix2 h j) = r := by
  obtain ⟨s, hs⟩ := sum_mul_finite Finset.univ (fun d : Fin 64 => proj (ix3 b T ⟨2048 + (h.val * 64 + d.val), by omega⟩))
    (fun d : Fin 64 => proj (ix3 b K ⟨2560 + (h.val * 64 + d.val), by omega⟩))
    (fun d => hfin.qk b T ⟨h.val * 64 + d.val, by omega⟩)
    (fun d => by
      obtain ⟨r, hr⟩ := hfin.qk b K ⟨512 + (h.val * 64 + d.val), by omega⟩
      exact ⟨r, (congrArg (fun z => proj (ix3 b K z)) (Fin.ext (by simp only []; omega))).trans hr⟩)
  obtain ⟨u, hu⟩ := hfin.rel h j
  have hc : ∃ k : ℝ, Ideal.ofBits .f32 0x3E000000#32 = k := by
    unfold Ideal.ofBits Ideal.ieee
    dsimp only
    rw [if_neg (by decide), if_neg (by decide)]
    exact ⟨_, rfl⟩
  obtain ⟨k, hk⟩ := hc
  exact ⟨s * k + u, by rw [hs, hk, hu]; push_cast; rfl⟩

/-- No score is plus infinity. -/
theorem score_ne_top {proj : Vec Ideal S16x4096x5632 .bf16} {rel : Vec Ideal S8x257 .f32} (hfin : Finite proj rel)
    (b : Fin 16) (h : Fin 8) (T K : Fin 4096) : BandAttn.score proj rel b h T K ≠ ⊤ := by
  unfold BandAttn.score
  split
  · obtain ⟨r, hr⟩ := visible_real hfin b h T K ⟨min (T.val + 128 - K.val) 256, by omega⟩
    rw [hr]; exact EReal.coe_ne_top r
  · exact bot_ne_top

/-- A query's score of its own key is not minus infinity. -/
theorem score_self_ne_bot {proj : Vec Ideal S16x4096x5632 .bf16} {rel : Vec Ideal S8x257 .f32} (hfin : Finite proj rel)
    (b : Fin 16) (h : Fin 8) (T : Fin 4096) : BandAttn.score proj rel b h T T ≠ ⊥ := by
  unfold BandAttn.score
  rw [if_pos (by omega)]
  obtain ⟨r, hr⟩ := visible_real hfin b h T T ⟨min (T.val + 128 - T.val) 256, by omega⟩
  rw [hr]; exact EReal.coe_ne_bot r

/-- The tile's score plus its bias tile is the score of the specification. -/
theorem score_of (proj : Vec Ideal S16x4096x5632 .bf16) (rel : Vec Ideal S8x257 .f32) (b : Fin 16) (h : Fin 8) (B : ℕ) (hB : B < 16)
    (c : Fin 3) (r j : Fin 256) (h2 : 2 ≤ B + c.val) :
    (∑ d : Fin 64, proj (ix3 b ⟨B * 256 + r.val, by omega⟩ ⟨2048 + (h.val * 64 + d.val), by omega⟩)
        * proj (ix3 b ⟨(B + c.val - 2) * 256 + j.val, by omega⟩ ⟨2560 + (h.val * 64 + d.val), by omega⟩)) * Ideal.ofBits .f32 0x3E000000#32
      + biasArr rel (ix4 h c r j)
    = BandAttn.score proj rel b h ⟨B * 256 + r.val, by omega⟩ ⟨(B + c.val - 2) * 256 + j.val, by omega⟩ := by
  rw [biasArr_at]
  unfold BandAttn.score
  by_cases hv : (c.val * 256 + j.val) / 64 ≤ r.val / 64 + 8 ∧ r.val / 64 ≤ (c.val * 256 + j.val) / 64
  · rw [if_pos hv, if_pos (by simp only []; omega)]
    exact congrArg _ (congrArg (fun z => rel (ix2 h z)) (Fin.ext (by simp only []; omega)))
  · rw [if_neg hv, if_neg (by simp only []; omega)]
    exact EReal.add_bot _

/-- One head's rows: three score tiles and three value tiles that agree with the specification wherever the tile exists. -/
theorem head_rows (proj : Vec Ideal S16x4096x5632 .bf16) (rel : Vec Ideal S8x257 .f32) (hfin : Finite proj rel) (b : Fin 16) (h : Fin 8)
    (B : ℕ) (hB : B < 16) (r : Fin 256) (l : Fin 128) (col : Fin 512) (s : Fin 3 → FVec Ideal S256x256 .f32)
    (v : Fin 3 → Vec Ideal S1x256x128 .bf16)
    (hs : ∀ (c : Fin 3) (j : Fin 256) (h2 : 2 ≤ B + c.val), s c (ix2 r j)
      = BandAttn.score proj rel b h ⟨B * 256 + r.val, by omega⟩ ⟨(B + c.val - 2) * 256 + j.val, by omega⟩)
    (hs0 : ∀ (c : Fin 3) (j : Fin 256), B + c.val < 2 → s c (ix2 r j) = (⊥ : EReal))
    (hv : ∀ (c : Fin 3) (j : Fin 256) (h2 : 2 ≤ B + c.val), v c (ix3 0 j l)
      = proj (ix3 b ⟨(B + c.val - 2) * 256 + j.val, by omega⟩ ⟨3072 + col.val, by omega⟩)) :
    headOut (s 0) (s 1) (s 2) (v 0) (v 1) (v 2) (ix2 r l)
      = softAvg (BandAttn.score proj rel b h ⟨B * 256 + r.val, by omega⟩) (fun K => proj (ix3 b K ⟨3072 + col.val, by omega⟩)) := by
  rw [headOut_at]
  refine window_eq (BandAttn.score proj rel b h ⟨B * 256 + r.val, by omega⟩) (fun K => proj (ix3 b K ⟨3072 + col.val, by omega⟩)) B hB
    (fun K hK => ?_) (fun K => score_ne_top hfin b h _ K) ⟨B * 256 + r.val, by omega⟩ (score_self_ne_bot hfin b h _)
    (fun c j => s c (ix2 r j)) (fun c j => v c (ix3 0 j l)) hs hs0 hv _ rfl
  unfold BandAttn.score
  rw [if_neg (by simp only []; omega)]

/-- The stored tile of query tile `B` of batch row `b`, head pair `p`. -/
theorem tile_rows (proj : Vec Ideal S16x4096x5632 .bf16) (rel : Vec Ideal S8x257 .f32) (hfin : Finite proj rel) (b : Fin 16) (p : Fin 4)
    (B : ℕ) (hB : B < 16) (g0 g1 : BitVec 1) (hg0 : g0 = 1#1 ↔ 2 ≤ B) (hg1 : g1 = 1#1 ↔ 1 ≤ B)
    (q : Vec Ideal S1x256x128 .bf16) (k v : Fin 3 → Vec Ideal S1x256x128 .bf16) (a a' : Fin 3 → Vec Ideal S1x1x256x256 .f32)
    (hq : ∀ (r : Fin 256) (l : Fin 128) (T : Fin 4096) (x : Fin 5632), T.val = B * 256 + r.val → x.val = 2048 + (p.val * 128 + l.val) →
      q (ix3 0 r l) = proj (ix3 b T x))
    (hk : ∀ (c : Fin 3) (j : Fin 256) (l : Fin 128) (T : Fin 4096) (x : Fin 5632), T.val + 512 = (B + c.val) * 256 + j.val →
      x.val = 2560 + (p.val * 128 + l.val) → k c (ix3 0 j l) = proj (ix3 b T x))
    (hv : ∀ (c : Fin 3) (j : Fin 256) (l : Fin 128) (T : Fin 4096) (x : Fin 5632), T.val + 512 = (B + c.val) * 256 + j.val →
      x.val = 3072 + (p.val * 128 + l.val) → v c (ix3 0 j l) = proj (ix3 b T x))
    (ha : ∀ (c : Fin 3) (r j : Fin 256) (h : Fin 8), h.val = 2 * p.val → a c (ix4 0 0 r j) = biasArr rel (ix4 h c r j))
    (ha' : ∀ (c : Fin 3) (r j : Fin 256) (h : Fin 8), h.val = 2 * p.val + 1 → a' c (ix4 0 0 r j) = biasArr rel (ix4 h c r j))
    (r : Fin 256) (l : Fin 128) :
    tileOut g0 g1 q (k 0) (k 1) (k 2) (v 0) (v 1) (v 2) (a 0) (a 1) (a 2) (a' 0) (a' 1) (a' 2) (ix3 0 r l)
      = attnAt proj rel (ix3 b ⟨B * 256 + r.val, by omega⟩ ⟨p.val * 128 + l.val, by omega⟩) := by
  have lo : ∀ (c : Fin 3) (j : Fin 256) (h2 : 2 ≤ B + c.val), score k0_pay3 q (k c) (a c) (ix2 r j)
      = BandAttn.score proj rel b ⟨2 * p.val, by omega⟩ ⟨B * 256 + r.val, by omega⟩ ⟨(B + c.val - 2) * 256 + j.val, by omega⟩ := fun c j h2 => by
    rw [score_lo, ha c r j ⟨2 * p.val, by omega⟩ rfl, ← score_of proj rel b _ B hB c r j h2]
    refine congrArg (fun z => z * _ + _) (Finset.sum_congr rfl fun d _ => ?_)
    exact congrArg₂ (· * ·) (hq r _ _ _ rfl (by simp only []; omega)) (hk c j _ _ _ (by simp only []; omega) (by simp only []; omega))
  have hi : ∀ (c : Fin 3) (j : Fin 256) (h2 : 2 ≤ B + c.val), score hiLanes q (k c) (a' c) (ix2 r j)
      = BandAttn.score proj rel b ⟨2 * p.val + 1, by omega⟩ ⟨B * 256 + r.val, by omega⟩ ⟨(B + c.val - 2) * 256 + j.val, by omega⟩ := fun c j h2 => by
    rw [score_hi, ha' c r j ⟨2 * p.val + 1, by omega⟩ rfl, ← score_of proj rel b _ B hB c r j h2]
    refine congrArg (fun z => z * _ + _) (Finset.sum_congr rfl fun d _ => ?_)
    exact congrArg₂ (· * ·) (hq r _ _ _ rfl (by simp only []; omega)) (hk c j _ _ _ (by simp only []; omega) (by simp only []; omega))
  have rows : ∀ (h : Fin 8) (s : Fin 3 → FVec Ideal S256x256 .f32), (∀ (c : Fin 3) (j : Fin 256) (h2 : 2 ≤ B + c.val), s c (ix2 r j)
      = BandAttn.score proj rel b h ⟨B * 256 + r.val, by omega⟩ ⟨(B + c.val - 2) * 256 + j.val, by omega⟩) →
      headOut (guarded g0 (s 0)) (guarded g1 (s 1)) (s 2) (v 0) (v 1) (v 2) (ix2 r l)
      = softAvg (BandAttn.score proj rel b h ⟨B * 256 + r.val, by omega⟩)
          (fun K => proj (ix3 b K ⟨3072 + (p.val * 128 + l.val), by omega⟩)) := fun h s hs => by
    refine head_rows proj rel hfin b h B hB r l ⟨p.val * 128 + l.val, by omega⟩ ![guarded g0 (s 0), guarded g1 (s 1), s 2] v
      (fun c j h2 => ?_) (fun c j h2 => ?_) (fun c j h2 => hv c j l _ _ (by simp only []; omega) rfl)
    · rw [← hs c j h2]
      match c with
      | 0 => exact (guarded_at g0 (s 0) r j).trans (if_pos (hg0.2 h2))
      | 1 => exact (guarded_at g1 (s 1) r j).trans (if_pos (hg1.2 (by change 2 ≤ B + 1 at h2; omega)))
      | 2 => rfl
    · match c with
      | 0 => exact (guarded_at g0 (s 0) r j).trans (if_neg fun e => by have := hg0.1 e; change B + 0 < 2 at h2; omega)
      | 1 => exact (guarded_at g1 (s 1) r j).trans (if_neg fun e => by have := hg1.1 e; change B + 1 < 2 at h2; omega)
      | 2 => exact absurd h2 (by change ¬ B + 2 < 2; omega)
  rw [tileOut_at]
  unfold attnAt BandAttn.head
  split
  · refine (rows ⟨2 * p.val, by omega⟩ (fun c => score k0_pay3 q (k c) (a c)) lo).trans ?_
    exact congrArg (fun z => softAvg (BandAttn.score proj rel b z _) _) (Fin.ext (by change _ = (p.val * 128 + l.val) / 64; simp only []; omega))
  · refine (rows ⟨2 * p.val + 1, by omega⟩ (fun c => score hiLanes q (k c) (a' c)) hi).trans ?_
    exact congrArg (fun z => softAvg (BandAttn.score proj rel b z _) _) (Fin.ext (by change _ = (p.val * 128 + l.val) / 64; simp only []; omega))

end Cert.KernelIdeal.Attn
end
-- ==== Proof.Attn.BiasEntry.lean ====
module

public import proofs.«01_k».proof.Proof.Attn.Bias

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Facts

variable (m : (ℓ : Loc nD τ sig) → Buf (Elt Ideal) ℓ)

set_option maxHeartbeats 2000000 in
theorem bias_eq (c : Dev nD) :
    V m c main_v44 = biasArr (m ((c : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  rfl

end Cert.KernelIdeal.Attn
end
-- ==== Proof.Attn.Final.lean ====
/- The attention call's result array is the attention of its arguments. -/
module

public import proofs.«01_k».proof.Proof.Attn.Window
public import proofs.«01_k».proof.Proof.Attn.BiasEntry
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Facts
open BandAttn (attnAt)

variable (m : (ℓ : Loc nD τ sig) → Buf (Elt Ideal) ℓ)

/-- Where the eleven windows stand at a grid point: head pair, batch row, and pair of query tiles are the coordinates. -/
theorem idx : ∀ t : Fin cfg0.N,
    win0_0.index t = ![(grid0.coords t 1).val, (grid0.coords t 2).val, 16 + (grid0.coords t 0).val]
    ∧ win0_1.index t = ![(grid0.coords t 1).val, 2 * (grid0.coords t 2).val - 2, 20 + (grid0.coords t 0).val]
    ∧ win0_2.index t = ![(grid0.coords t 1).val, 2 * (grid0.coords t 2).val - 1, 20 + (grid0.coords t 0).val]
    ∧ win0_3.index t = ![(grid0.coords t 1).val, 2 * (grid0.coords t 2).val, 20 + (grid0.coords t 0).val]
    ∧ win0_4.index t = ![(grid0.coords t 1).val, 2 * (grid0.coords t 2).val + 1, 20 + (grid0.coords t 0).val]
    ∧ win0_5.index t = ![(grid0.coords t 1).val, 2 * (grid0.coords t 2).val - 2, 24 + (grid0.coords t 0).val]
    ∧ win0_6.index t = ![(grid0.coords t 1).val, 2 * (grid0.coords t 2).val - 1, 24 + (grid0.coords t 0).val]
    ∧ win0_7.index t = ![(grid0.coords t 1).val, 2 * (grid0.coords t 2).val, 24 + (grid0.coords t 0).val]
    ∧ win0_8.index t = ![(grid0.coords t 1).val, 2 * (grid0.coords t 2).val + 1, 24 + (grid0.coords t 0).val]
    ∧ win0_9.index t = ![(grid0.coords t 0).val, 0, 0, 0]
    ∧ win0_10.index t = ![(grid0.coords t 1).val, (grid0.coords t 2).val, (grid0.coords t 0).val] :=
  (by decide +kernel : ∀ t : Fin grid0.N, _)

/-- The grid point of a batch row, pair of query tiles and head pair. -/
theorem point : ∀ (b : Fin 16) (i : Fin 8) (p : Fin 4), win0_10.index (⟨p.val * 128 + b.val * 8 + i.val, lt_of_lt_of_eq (by omega : _ < 512) (by decide : 512 = grid0.N)⟩ : Fin grid0.N) = ![b.val, i.val, p.val] := by
  decide +kernel

/-- The written blocks tile the result array. -/
theorem covers : win0_10.Covers :=
  win0_10.covers_of_index_surj rfl (by decide) fun β =>
    ⟨_, fun a => by
      rw [point ⟨(β 0).val, (β 0).isLt⟩ ⟨(β 1).val, (β 1).isLt⟩ ⟨(β 2).val, (β 2).isLt⟩]
      match a with
      | 0 => rfl
      | 1 => rfl
      | 2 => rfl⟩

/-- Which of a query tile's two earlier key tiles exist, as the kernel's comparisons say it. -/
theorem guard_iff : ∀ i : Fin 8, (exists_ (BitVec.ofNat 32 i.val) 0#32 2#32 = 1#1 ↔ 2 ≤ 2 * i.val)
    ∧ (exists_ (BitVec.ofNat 32 i.val) 0#32 1#32 = 1#1 ↔ 1 ≤ 2 * i.val)
    ∧ (exists_ (BitVec.ofNat 32 i.val) 1#32 2#32 = 1#1 ↔ 2 ≤ 2 * i.val + 1)
    ∧ (exists_ (BitVec.ofNat 32 i.val) 1#32 1#32 = 1#1 ↔ 1 ≤ 2 * i.val + 1) := by
  decide +kernel

/-- The loads of the kernel's rectangles, at an index: the upper 256 query rows. -/
theorem ld_upper (x : Vec Ideal S1x512x128 .bf16) (r : Fin 256) (l : Fin 128) : View.ld x r0_0 (ix3 0 r l) = x (ix3 0 ⟨r.val, by omega⟩ l) := by
  pointwise

/-- The lower 256 query rows. -/
theorem ld_lower (x : Vec Ideal S1x512x128 .bf16) (r : Fin 256) (l : Fin 128) : View.ld x r0_1 (ix3 0 r l) = x (ix3 0 ⟨256 + r.val, by omega⟩ l) := by
  pointwise

/-- A key or value tile whole. -/
theorem ld_tile (x : Vec Ideal S1x256x128 .bf16) : View.ld x r0_2 = x := by
  funext y
  idx_vars y
  obtain rfl : y0 = 0 := Subsingleton.elim _ _
  pointwise

/-- The three bias tiles of each of the two heads. -/
theorem ld_bias (x : Vec Ideal S2x3x256x256 .f32) (c : Fin 3) (r j : Fin 256) :
    (![View.ld x r0_3, View.ld x r0_5, View.ld x r0_7] : Fin 3 → Vec Ideal S1x1x256x256 .f32) c (ix4 0 0 r j) = x (ix4 0 c r j)
    ∧ (![View.ld x r0_4, View.ld x r0_6, View.ld x r0_8] : Fin 3 → Vec Ideal S1x1x256x256 .f32) c (ix4 0 0 r j) = x (ix4 1 c r j) := by
  match c with
  | 0 => exact ⟨by change View.ld x r0_3 (ix4 0 0 r j) = _; pointwise, by change View.ld x r0_4 (ix4 0 0 r j) = _; pointwise⟩
  | 1 => exact ⟨by change View.ld x r0_5 (ix4 0 0 r j) = _; pointwise, by change View.ld x r0_6 (ix4 0 0 r j) = _; pointwise⟩
  | 2 => exact ⟨by change View.ld x r0_7 (ix4 0 0 r j) = _; pointwise, by change View.ld x r0_8 (ix4 0 0 r j) = _; pointwise⟩

/-- The ranges of the grid's coordinates. -/
theorem coords_lt (t : Fin cfg0.N) : (grid0.coords t 0).val < 4 ∧ (grid0.coords t 1).val < 16 ∧ (grid0.coords t 2).val < 8 :=
  ⟨(grid0.coords t 0).isLt, (grid0.coords t 1).isLt, (grid0.coords t 2).isLt⟩

/-- The query block of a grid point, read from an array of the projection's shape. -/
theorem q_block (A : Vec Ideal S16x4096x5632 .bf16) (t : Fin cfg0.N) (r : Fin 512) (l : Fin 128) (b : Fin 16) (T : Fin 4096) (x : Fin 5632)
    (hb : b.val = (grid0.coords t 1).val) (hT : T.val = (grid0.coords t 2).val * 512 + r.val) (hx : x.val = 2048 + ((grid0.coords t 0).val * 128 + l.val)) :
    ((cfg0.win 0).blk t).view.read (Elt Ideal) A (ix3 0 r l) = A (ix3 b T x) := by
  blk_ext [idx t]

/-- The two query tiles of a grid point at an index. -/
theorem q_at (c : Dev nD) (t : Fin cfg0.N) (r : Fin 256) (l : Fin 128) (b : Fin 16) (hb : b.val = (grid0.coords t 1).val) (T : Fin 4096) (x : Fin 5632)
    (hx : x.val = 2048 + ((grid0.coords t 0).val * 128 + l.val)) :
    (T.val = (2 * (grid0.coords t 2).val + 0) * 256 + r.val → View.ld (iblk m c 0 t) r0_0 (ix3 0 r l) = m ((c : Thread nD τ).loc main_arg0) (ix3 b T x)) ∧
    (T.val = (2 * (grid0.coords t 2).val + 1) * 256 + r.val → View.ld (iblk m c 0 t) r0_1 (ix3 0 r l) = m ((c : Thread nD τ).loc main_arg0) (ix3 b T x)) := by
  rw [← V_main_arg0 m c]
  refine ⟨fun hT => ?_, fun hT => ?_⟩
  · rw [ld_upper]
    exact q_block (V m c main_arg0) t _ l b T x hb (by simp only []; omega) hx
  · rw [ld_lower]
    exact q_block (V m c main_arg0) t _ l b T x hb (by simp only []; omega) hx

/-- The four key blocks of a grid point, read from an array of the projection's shape. -/
theorem key_blocks (A : Vec Ideal S16x4096x5632 .bf16) (t : Fin cfg0.N) (j : Fin 256) (l : Fin 128) (b : Fin 16) (hb : b.val = (grid0.coords t 1).val) :
    (∀ (T : Fin 4096) (x : Fin 5632), T.val + 512 = (2 * (grid0.coords t 2).val + 0) * 256 + j.val →
        x.val = 2560 + ((grid0.coords t 0).val * 128 + l.val) → ((cfg0.win 1).blk t).view.read (Elt Ideal) A (ix3 0 j l) = A (ix3 b T x)) ∧
    (∀ (T : Fin 4096) (x : Fin 5632), T.val + 512 = (2 * (grid0.coords t 2).val + 1) * 256 + j.val →
        x.val = 2560 + ((grid0.coords t 0).val * 128 + l.val) → ((cfg0.win 2).blk t).view.read (Elt Ideal) A (ix3 0 j l) = A (ix3 b T x)) ∧
    (∀ (T : Fin 4096) (x : Fin 5632), T.val + 512 = (2 * (grid0.coords t 2).val + 2) * 256 + j.val →
        x.val = 2560 + ((grid0.coords t 0).val * 128 + l.val) → ((cfg0.win 3).blk t).view.read (Elt Ideal) A (ix3 0 j l) = A (ix3 b T x)) ∧
    (∀ (T : Fin 4096) (x : Fin 5632), T.val + 512 = (2 * (grid0.coords t 2).val + 3) * 256 + j.val →
        x.val = 2560 + ((grid0.coords t 0).val * 128 + l.val) → ((cfg0.win 4).blk t).view.read (Elt Ideal) A (ix3 0 j l) = A (ix3 b T x)) := by
  refine ⟨?_, ?_, ?_, ?_⟩ <;> (intro T x hT hx; blk_ext [idx t])

/-- The four value blocks of a grid point, read from an array of the projection's shape. -/
theorem value_blocks (A : Vec Ideal S16x4096x5632 .bf16) (t : Fin cfg0.N) (j : Fin 256) (l : Fin 128) (b : Fin 16) (hb : b.val = (grid0.coords t 1).val) :
    (∀ (T : Fin 4096) (x : Fin 5632), T.val + 512 = (2 * (grid0.coords t 2).val + 0) * 256 + j.val →
        x.val = 3072 + ((grid0.coords t 0).val * 128 + l.val) → ((cfg0.win 5).blk t).view.read (Elt Ideal) A (ix3 0 j l) = A (ix3 b T x)) ∧
    (∀ (T : Fin 4096) (x : Fin 5632), T.val + 512 = (2 * (grid0.coords t 2).val + 1) * 256 + j.val →
        x.val = 3072 + ((grid0.coords t 0).val * 128 + l.val) → ((cfg0.win 6).blk t).view.read (Elt Ideal) A (ix3 0 j l) = A (ix3 b T x)) ∧
    (∀ (T : Fin 4096) (x : Fin 5632), T.val + 512 = (2 * (grid0.coords t 2).val + 2) * 256 + j.val →
        x.val = 3072 + ((grid0.coords t 0).val * 128 + l.val) → ((cfg0.win 7).blk t).view.read (Elt Ideal) A (ix3 0 j l) = A (ix3 b T x)) ∧
    (∀ (T : Fin 4096) (x : Fin 5632), T.val + 512 = (2 * (grid0.coords t 2).val + 3) * 256 + j.val →
        x.val = 3072 + ((grid0.coords t 0).val * 128 + l.val) → ((cfg0.win 8).blk t).view.read (Elt Ideal) A (ix3 0 j l) = A (ix3 b T x)) := by
  refine ⟨?_, ?_, ?_, ?_⟩ <;> (intro T x hT hx; blk_ext [idx t])

/-- The four key tiles of a grid point at an index. -/
theorem key_at (c : Dev nD) (t : Fin cfg0.N) (j : Fin 256) (l : Fin 128) (b : Fin 16) (hb : b.val = (grid0.coords t 1).val) :
    (∀ (T : Fin 4096) (x : Fin 5632), T.val + 512 = (2 * (grid0.coords t 2).val + 0) * 256 + j.val →
        x.val = 2560 + ((grid0.coords t 0).val * 128 + l.val) → View.ld (iblk m c 1 t) r0_2 (ix3 0 j l) = m ((c : Thread nD τ).loc main_arg0) (ix3 b T x)) ∧
    (∀ (T : Fin 4096) (x : Fin 5632), T.val + 512 = (2 * (grid0.coords t 2).val + 1) * 256 + j.val →
        x.val = 2560 + ((grid0.coords t 0).val * 128 + l.val) → View.ld (iblk m c 2 t) r0_2 (ix3 0 j l) = m ((c : Thread nD τ).loc main_arg0) (ix3 b T x)) ∧
    (∀ (T : Fin 4096) (x : Fin 5632), T.val + 512 = (2 * (grid0.coords t 2).val + 2) * 256 + j.val →
        x.val = 2560 + ((grid0.coords t 0).val * 128 + l.val) → View.ld (iblk m c 3 t) r0_2 (ix3 0 j l) = m ((c : Thread nD τ).loc main_arg0) (ix3 b T x)) ∧
    (∀ (T : Fin 4096) (x : Fin 5632), T.val + 512 = (2 * (grid0.coords t 2).val + 3) * 256 + j.val →
        x.val = 2560 + ((grid0.coords t 0).val * 128 + l.val) → View.ld (iblk m c 4 t) r0_2 (ix3 0 j l) = m ((c : Thread nD τ).loc main_arg0) (ix3 b T x)) := by
  have e := key_blocks (m ((c : Thread nD τ).loc main_arg0)) t j l b hb
  rw [← V_main_arg0 m c] at e ⊢
  refine ⟨fun T x hT hx => ?_, fun T x hT hx => ?_, fun T x hT hx => ?_, fun T x hT hx => ?_⟩ <;> rw [ld_tile]
  · exact e.1 T x hT hx
  · exact e.2.1 T x hT hx
  · exact e.2.2.1 T x hT hx
  · exact e.2.2.2 T x hT hx

/-- The four value tiles of a grid point at an index. -/
theorem value_at (c : Dev nD) (t : Fin cfg0.N) (j : Fin 256) (l : Fin 128) (b : Fin 16) (hb : b.val = (grid0.coords t 1).val) :
    (∀ (T : Fin 4096) (x : Fin 5632), T.val + 512 = (2 * (grid0.coords t 2).val + 0) * 256 + j.val →
        x.val = 3072 + ((grid0.coords t 0).val * 128 + l.val) → View.ld (iblk m c 5 t) r0_2 (ix3 0 j l) = m ((c : Thread nD τ).loc main_arg0) (ix3 b T x)) ∧
    (∀ (T : Fin 4096) (x : Fin 5632), T.val + 512 = (2 * (grid0.coords t 2).val + 1) * 256 + j.val →
        x.val = 3072 + ((grid0.coords t 0).val * 128 + l.val) → View.ld (iblk m c 6 t) r0_2 (ix3 0 j l) = m ((c : Thread nD τ).loc main_arg0) (ix3 b T x)) ∧
    (∀ (T : Fin 4096) (x : Fin 5632), T.val + 512 = (2 * (grid0.coords t 2).val + 2) * 256 + j.val →
        x.val = 3072 + ((grid0.coords t 0).val * 128 + l.val) → View.ld (iblk m c 7 t) r0_2 (ix3 0 j l) = m ((c : Thread nD τ).loc main_arg0) (ix3 b T x)) ∧
    (∀ (T : Fin 4096) (x : Fin 5632), T.val + 512 = (2 * (grid0.coords t 2).val + 3) * 256 + j.val →
        x.val = 3072 + ((grid0.coords t 0).val * 128 + l.val) → View.ld (iblk m c 8 t) r0_2 (ix3 0 j l) = m ((c : Thread nD τ).loc main_arg0) (ix3 b T x)) := by
  have e := value_blocks (m ((c : Thread nD τ).loc main_arg0)) t j l b hb
  rw [← V_main_arg0 m c] at e ⊢
  refine ⟨fun T x hT hx => ?_, fun T x hT hx => ?_, fun T x hT hx => ?_, fun T x hT hx => ?_⟩ <;> rw [ld_tile]
  · exact e.1 T x hT hx
  · exact e.2.1 T x hT hx
  · exact e.2.2.1 T x hT hx
  · exact e.2.2.2 T x hT hx

/-- The bias block of a grid point, read from an array of the bias's shape. -/
theorem bias_block (A : Vec Ideal S8x3x256x256 .f32) (t : Fin cfg0.N) (u : Fin 2) (n : Fin 3) (r j : Fin 256) (h : Fin 8)
    (hh : h.val = 2 * (grid0.coords t 0).val + u.val) :
    ((cfg0.win 9).blk t).view.read (Elt Ideal) A (ix4 u n r j) = A (ix4 h n r j) := by
  blk_ext [idx t]

/-- The bias tiles of a grid point at an index. -/
theorem bias_at (c : Dev nD) (t : Fin cfg0.N) (u : Fin 2) (n : Fin 3) (r j : Fin 256) (h : Fin 8) (hh : h.val = 2 * (grid0.coords t 0).val + u.val) :
    iblk m c 9 t (ix4 u n r j) = biasArr (m ((c : Thread nD τ).loc main_arg1)) (ix4 h n r j) := by
  rw [← bias_eq m c]
  exact bias_block (V m c main_v44) t u n r j h hh

/-- A stored tile, of any query, key, value and bias blocks that hold the projection's and the bias's elements: its
    entries are the attention's. -/
theorem stored (proj : Vec Ideal S16x4096x5632 .bf16) (rel : Vec Ideal S8x257 .f32) (hfin : Finite proj rel) (b : Fin 16) (p : Fin 4)
    (B : ℕ) (hB : B < 16) (g0 g1 : BitVec 1) (hg0 : g0 = 1#1 ↔ 2 ≤ B) (hg1 : g1 = 1#1 ↔ 1 ≤ B)
    (q k0 k1 k2 v0 v1 v2 : Vec Ideal S1x256x128 .bf16) (x : Vec Ideal S2x3x256x256 .f32)
    (hq : ∀ (r : Fin 256) (l : Fin 128) (T : Fin 4096) (x : Fin 5632), T.val = B * 256 + r.val → x.val = 2048 + (p.val * 128 + l.val) →
      q (ix3 0 r l) = proj (ix3 b T x))
    (hk0 : ∀ (j : Fin 256) (l : Fin 128) (T : Fin 4096) (x : Fin 5632), T.val + 512 = (B + 0) * 256 + j.val → x.val = 2560 + (p.val * 128 + l.val) →
      k0 (ix3 0 j l) = proj (ix3 b T x))
    (hk1 : ∀ (j : Fin 256) (l : Fin 128) (T : Fin 4096) (x : Fin 5632), T.val + 512 = (B + 1) * 256 + j.val → x.val = 2560 + (p.val * 128 + l.val) →
      k1 (ix3 0 j l) = proj (ix3 b T x))
    (hk2 : ∀ (j : Fin 256) (l : Fin 128) (T : Fin 4096) (x : Fin 5632), T.val + 512 = (B + 2) * 256 + j.val → x.val = 2560 + (p.val * 128 + l.val) →
      k2 (ix3 0 j l) = proj (ix3 b T x))
    (hv0 : ∀ (j : Fin 256) (l : Fin 128) (T : Fin 4096) (x : Fin 5632), T.val + 512 = (B + 0) * 256 + j.val → x.val = 3072 + (p.val * 128 + l.val) →
      v0 (ix3 0 j l) = proj (ix3 b T x))
    (hv1 : ∀ (j : Fin 256) (l : Fin 128) (T : Fin 4096) (x : Fin 5632), T.val + 512 = (B + 1) * 256 + j.val → x.val = 3072 + (p.val * 128 + l.val) →
      v1 (ix3 0 j l) = proj (ix3 b T x))
    (hv2 : ∀ (j : Fin 256) (l : Fin 128) (T : Fin 4096) (x : Fin 5632), T.val + 512 = (B + 2) * 256 + j.val → x.val = 3072 + (p.val * 128 + l.val) →
      v2 (ix3 0 j l) = proj (ix3 b T x))
    (hx : ∀ (u : Fin 2) (n : Fin 3) (r j : Fin 256) (h : Fin 8), h.val = 2 * p.val + u.val → x (ix4 u n r j) = biasArr rel (ix4 h n r j))
    (r : Fin 256) (l : Fin 128) (T : Fin 4096) (n : Fin 512) (hT : T.val = B * 256 + r.val) (hn : n.val = p.val * 128 + l.val) :
    tileOut g0 g1 q k0 k1 k2 v0 v1 v2 (View.ld x r0_3) (View.ld x r0_5) (View.ld x r0_7) (View.ld x r0_4) (View.ld x r0_6) (View.ld x r0_8) (ix3 0 r l)
      = attnAt proj rel (ix3 b T n) := by
  refine Eq.trans ?_ (congrArg₂ (fun T n => attnAt proj rel (ix3 b T n)) (Fin.ext (a := ⟨B * 256 + r.val, by omega⟩) hT.symm)
    (Fin.ext (a := ⟨p.val * 128 + l.val, by omega⟩) hn.symm))
  exact tile_rows proj rel hfin b p B hB g0 g1 hg0 hg1 q ![k0, k1, k2] ![v0, v1, v2]
    ![View.ld x r0_3, View.ld x r0_5, View.ld x r0_7] ![View.ld x r0_4, View.ld x r0_6, View.ld x r0_8] hq
    (fun | 0 => hk0 | 1 => hk1 | 2 => hk2) (fun | 0 => hv0 | 1 => hv1 | 2 => hv2)
    (fun n r j h hh => (ld_bias x n r j).1.trans (hx 0 n r j h hh)) (fun n r j h hh => (ld_bias x n r j).2.trans (hx 1 n r j h hh)) r l

/-- The upper stored tile of a grid point. -/
theorem stored_upper (c : Dev nD) (hfin : Finite (m ((c : Thread nD τ).loc main_arg0)) (m ((c : Thread nD τ).loc main_arg1))) (t : Fin cfg0.N)
    (hp : (grid0.coords t 0).val < 4) (hb : (grid0.coords t 1).val < 16) (hi : (grid0.coords t 2).val < 8) (r : Fin 256) (l : Fin 128)
    (T : Fin 4096) (n : Fin 512) (hT : T.val = (2 * (grid0.coords t 2).val + 0) * 256 + r.val) (hn : n.val = (grid0.coords t 0).val * 128 + l.val) :
    tileOut (exists_ (BitVec.ofNat 32 (grid0.coords t 2).val) 0#32 2#32) (exists_ (BitVec.ofNat 32 (grid0.coords t 2).val) 0#32 1#32)
        (View.ld (iblk m c 0 t) r0_0) (View.ld (iblk m c 1 t) r0_2) (View.ld (iblk m c 2 t) r0_2) (View.ld (iblk m c 3 t) r0_2)
        (View.ld (iblk m c 5 t) r0_2) (View.ld (iblk m c 6 t) r0_2) (View.ld (iblk m c 7 t) r0_2)
        (View.ld (iblk m c 9 t) r0_3) (View.ld (iblk m c 9 t) r0_5) (View.ld (iblk m c 9 t) r0_7)
        (View.ld (iblk m c 9 t) r0_4) (View.ld (iblk m c 9 t) r0_6) (View.ld (iblk m c 9 t) r0_8) (ix3 0 r l)
      = attnAt (m ((c : Thread nD τ).loc main_arg0)) (m ((c : Thread nD τ).loc main_arg1)) (ix3 ⟨(grid0.coords t 1).val, hb⟩ T n) :=
  stored _ _ hfin ⟨(grid0.coords t 1).val, hb⟩ ⟨(grid0.coords t 0).val, hp⟩ (2 * (grid0.coords t 2).val + 0) (by omega) _ _
    (guard_iff ⟨(grid0.coords t 2).val, hi⟩).1 (guard_iff ⟨(grid0.coords t 2).val, hi⟩).2.1 _ _ _ _ _ _ _ _
    (fun r l T x hT hx => (q_at m c t r l ⟨_, hb⟩ rfl T x hx).1 hT)
    (fun j l T x hT hx => (key_at m c t j l ⟨_, hb⟩ rfl).1 T x (by omega) hx)
    (fun j l T x hT hx => (key_at m c t j l ⟨_, hb⟩ rfl).2.1 T x (by omega) hx)
    (fun j l T x hT hx => (key_at m c t j l ⟨_, hb⟩ rfl).2.2.1 T x (by omega) hx)
    (fun j l T x hT hx => (value_at m c t j l ⟨_, hb⟩ rfl).1 T x (by omega) hx)
    (fun j l T x hT hx => (value_at m c t j l ⟨_, hb⟩ rfl).2.1 T x (by omega) hx)
    (fun j l T x hT hx => (value_at m c t j l ⟨_, hb⟩ rfl).2.2.1 T x (by omega) hx)
    (fun u n r j h hh => bias_at m c t u n r j h hh) r l T n hT hn

/-- The lower stored tile of a grid point. -/
theorem stored_lower (c : Dev nD) (hfin : Finite (m ((c : Thread nD τ).loc main_arg0)) (m ((c : Thread nD τ).loc main_arg1))) (t : Fin cfg0.N)
    (hp : (grid0.coords t 0).val < 4) (hb : (grid0.coords t 1).val < 16) (hi : (grid0.coords t 2).val < 8) (r : Fin 256) (l : Fin 128)
    (T : Fin 4096) (n : Fin 512) (hT : T.val = (2 * (grid0.coords t 2).val + 1) * 256 + r.val) (hn : n.val = (grid0.coords t 0).val * 128 + l.val) :
    tileOut (exists_ (BitVec.ofNat 32 (grid0.coords t 2).val) 1#32 2#32) (exists_ (BitVec.ofNat 32 (grid0.coords t 2).val) 1#32 1#32)
        (View.ld (iblk m c 0 t) r0_1) (View.ld (iblk m c 2 t) r0_2) (View.ld (iblk m c 3 t) r0_2) (View.ld (iblk m c 4 t) r0_2)
        (View.ld (iblk m c 6 t) r0_2) (View.ld (iblk m c 7 t) r0_2) (View.ld (iblk m c 8 t) r0_2)
        (View.ld (iblk m c 9 t) r0_3) (View.ld (iblk m c 9 t) r0_5) (View.ld (iblk m c 9 t) r0_7)
        (View.ld (iblk m c 9 t) r0_4) (View.ld (iblk m c 9 t) r0_6) (View.ld (iblk m c 9 t) r0_8) (ix3 0 r l)
      = attnAt (m ((c : Thread nD τ).loc main_arg0)) (m ((c : Thread nD τ).loc main_arg1)) (ix3 ⟨(grid0.coords t 1).val, hb⟩ T n) :=
  stored _ _ hfin ⟨(grid0.coords t 1).val, hb⟩ ⟨(grid0.coords t 0).val, hp⟩ (2 * (grid0.coords t 2).val + 1) (by omega) _ _
    (guard_iff ⟨(grid0.coords t 2).val, hi⟩).2.2.1 (guard_iff ⟨(grid0.coords t 2).val, hi⟩).2.2.2 _ _ _ _ _ _ _ _
    (fun r l T x hT hx => (q_at m c t r l ⟨_, hb⟩ rfl T x hx).2 hT)
    (fun j l T x hT hx => (key_at m c t j l ⟨_, hb⟩ rfl).2.1 T x (by omega) hx)
    (fun j l T x hT hx => (key_at m c t j l ⟨_, hb⟩ rfl).2.2.1 T x (by omega) hx)
    (fun j l T x hT hx => (key_at m c t j l ⟨_, hb⟩ rfl).2.2.2 T x (by omega) hx)
    (fun j l T x hT hx => (value_at m c t j l ⟨_, hb⟩ rfl).2.1 T x (by omega) hx)
    (fun j l T x hT hx => (value_at m c t j l ⟨_, hb⟩ rfl).2.2.1 T x (by omega) hx)
    (fun j l T x hT hx => (value_at m c t j l ⟨_, hb⟩ rfl).2.2.2 T x (by omega) hx)
    (fun u n r j h hh => bias_at m c t u n r j h hh) r l T n hT hn

/-- An index of a stored tile by its row and column. -/
theorem tile_idx (x : S1x256x128.Idx) : x = ix3 0 ⟨(x 1).val, (x 1).isLt⟩ ⟨(x 2).val, (x 2).isLt⟩ := by
  funext a
  match a with
  | 0 => exact Subsingleton.elim (α := Fin 1) _ _
  | 1 => rfl
  | 2 => rfl

/-- The attention call's result array is the attention of its arguments. -/
theorem final (c : Dev nD) (hfin : Finite (m ((c : Thread nD τ).loc main_arg0)) (m ((c : Thread nD τ).loc main_arg1))) :
    (dats m 0 c).arrAt 10 cfg0.N = attnAt (m ((c : Thread nD τ).loc main_arg0)) (m ((c : Thread nD τ).loc main_arg1)) := by
  refine (dats m 0 c).arrAt_eq_of_covers 10 _ covers fun t hf y => ?_
  blk_simp
  rw [after0_10, out_eq]
  have place : ∀ (b : Fin 16) (T : Fin 4096) (k : Fin 512), b.val = (grid0.coords t 1).val + (y 0).val → T.val = (grid0.coords t 2).val * 512 + (y 1).val →
      k.val = (grid0.coords t 0).val * 128 + (y 2).val → (win0_10.blk t).view.emb y = ix3 b T k := fun b T k hb hT hk => by
    blk_ext [idx t]
  obtain ⟨hp, hb', hi⟩ := coords_lt t
  canon_tiles x h
  · rw [place ⟨(grid0.coords t 1).val, hb'⟩ ⟨(grid0.coords t 2).val * 512 + (y 1).val, by omega⟩ ⟨(grid0.coords t 0).val * 128 + (y 2).val, by omega⟩
      (by simp only []; omega) rfl rfl]
    refine (congrArg _ (tile_idx x)).trans ?_
    exact stored_lower m c hfin t hp hb' hi _ _ _ _ (by simp only []; omega) (by simp only []; omega)
  · rw [place ⟨(grid0.coords t 1).val, hb'⟩ ⟨(grid0.coords t 2).val * 512 + (y 1).val, by omega⟩ ⟨(grid0.coords t 0).val * 128 + (y 2).val, by omega⟩
      (by simp only []; omega) rfl rfl]
    refine (congrArg _ (tile_idx x)).trans ?_
    exact stored_upper m c hfin t hp hb' hi _ _ _ _ (by simp only []; omega) (by simp only []; omega)

end Cert.KernelIdeal.Attn
end
-- ==== Proof.Attn.RefWords.lean ====
/- The reference program of the attention, read at an index. -/
module

public import proofs.«01_k».proof.Proof.Attn.Spec
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Facts
open BandAttn

abbrev gd := gather_S8x257_S4096x4096x1_S8x4096x4096_0_1_n_n_1_2_81

/-- The table looked up along its columns, at an index: the column is the start index clamped into the table. -/
theorem gather_at {α : Type} (x : S8x257.Idx → α) (idx : IVec S4096x4096x1 32) (h : Fin 8) (T K : Fin 4096) :
    Host.gather gd x idx (ix3 h T K) = x (ix2 h ⟨min (idx (ix3 T K 0)).toInt.toNat 256, by omega⟩) := by
  unfold Host.gather
  congr 1
  funext a
  refine Fin.ext ?_
  show gd.start (ix3 h T K) idx a + gd.batchCoord (ix3 h T K) a + gd.offCoord (ix3 h T K) a = _
  have h01 : a = (0 : Fin 2) ∨ a = (1 : Fin 2) := by
    match a with
    | ⟨0, _⟩ => exact Or.inl rfl
    | ⟨1, _⟩ => exact Or.inr rfl
  rw [GatherDims.batchCoord_eq_zero _ _ _ List.not_mem_nil]
  rcases h01 with rfl | rfl
  · have hs : gd.start (ix3 h T K) idx (0 : Fin 2) = 0 := by
      unfold GatherDims.start; exact dif_neg (by decide)
    rw [hs]
    unfold GatherDims.offCoord
    have e (n : Nat) (hn : n < gd.offsetDims.length) : gd.offsetDims[n] = (0 : Fin 3) :=
      List.mem_singleton.mp (List.getElem_mem hn)
    rw [dif_pos (by decide), e]
    exact Nat.zero_add _
  · rw [GatherDims.offCoord_eq_zero _ _ _ (fun h => ((GatherDims.mem_sKept _ _).mp h).1 (List.mem_singleton.mpr rfl))]
    unfold GatherDims.start
    rw [dif_pos (show (1 : Fin 2) ∈ gd.startIndexMap from List.mem_singleton.mpr rfl)]
    have hsi : gd.siIdx (ix3 h T K) ⟨List.idxOf (1 : Fin 2) gd.startIndexMap,
        List.idxOf_lt_length_iff.2 (List.mem_singleton.mpr rfl)⟩ = ix3 T K 0 := by
      funext b; refine Fin.ext ?_
      match b with
      | ⟨0, _⟩ => rfl
      | ⟨1, _⟩ => rfl
      | ⟨2, _⟩ => rfl
    rw [hsi]
    rfl

/-- The chunk of each position: its number divided by 64, rounded down. -/
def chunk : IVec S4096 32 :=
  let t : IVec S4096 32 := iotaInDim S4096 32 0
  let k (w : BitVec 32) : IVec S4096 32 := broadcastInDim S4096 ![] bcast_S_S4096 (constantI S_ 32 w)
  select (andi (cmpi .ne (signi t) (broadcastInDim S4096 ![] bcast_S_S4096 (signi (constantI S_ 32 64#32))))
      (cmpi .ne (Host.remsi t (k 64#32)) (k 0#32)))
    (subi (Host.divsi t (k 64#32)) (k 1#32)) (Host.divsi t (k 64#32))

/-- Which keys a query sees. -/
def visible : IVec S4096x4096 1 :=
  let key (x : IVec S4096 32) : IVec S4096x4096 32 := broadcastInDim S4096x4096 ![0, 1] bcast_S1x4096_S4096x4096_0_1 (broadcastInDim S1x4096 ![1] bcast_S4096_S1x4096_1 x)
  andi
    (cmpi .sle (key chunk) (broadcastInDim S4096x4096 ![0, 1] bcast_S4096x1_S4096x4096_0_1 (broadcastInDim S4096x1 ![0] bcast_S4096_S4096x1_0 chunk)))
    (cmpi .sge (key chunk) (broadcastInDim S4096x4096 ![0, 1] bcast_S4096x1_S4096x4096_0_1
      (subi (broadcastInDim S4096x1 ![0] bcast_S4096_S4096x1_0 chunk) (broadcastInDim S4096x1 ![] bcast_S_S4096x1 (constantI S_ 32 8#32)))))

/-- The column of the bias table for each query and key. -/
def biasCol : IVec S4096x4096 32 :=
  let k (w : BitVec 32) : IVec S4096x4096 32 := broadcastInDim S4096x4096 ![] bcast_S_S4096x4096 (constantI S_ 32 w)
  let d : IVec S4096x4096 32 :=
    subi (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0)))
  let a := addi (minsi (k 128#32) (maxsi (k 4294967168#32) d)) (k 128#32)
  select (cmpi .slt a (k 0#32)) (addi a (k 257#32)) a

/-- The bias of every head, query and key. -/
def biasAll (rel : Vec Ideal S8x257 .f32) : Vec Ideal S8x4096x4096 .f32 :=
  Host.gather gd rel (broadcastInDim S4096x4096x1 ![0, 1] bcast_S4096x4096_S4096x4096x1_0_1 biasCol)

/-- The scores of every batch row, head, query and key. -/
def scores (proj : Vec Ideal S16x4096x5632 .bf16) (rel : Vec Ideal S8x257 .f32) : FVec Ideal S16x8x4096x4096 .f32 :=
  select (broadcastInDim S16x8x4096x4096 ![2, 3] bcast_S4096x4096_S16x8x4096x4096_2_3 visible)
    (addf
      (mulf
        (Host.dotGeneral (F := Ideal) (φ₁ := .f32) (φ₂ := .f32) dot_S16x4096x8x64_S16x4096x8x64_S16x8x4096x4096_3_3_1_1_02_02 none
          (shapeCast S16x4096x8x64 (extf .f32 (extractStridedSlice S16x4096x512 ![0, 0, 2048] proj slices_S16x4096x5632_S16x4096x512_0_0_2048) bitsLt_bf16_f32 : FVec Ideal S16x4096x512 .f32) shapeCasts_S16x4096x512_S16x4096x8x64)
          (shapeCast S16x4096x8x64 (extf .f32 (extractStridedSlice S16x4096x512 ![0, 0, 2560] proj slices_S16x4096x5632_S16x4096x512_0_0_2560) bitsLt_bf16_f32 : FVec Ideal S16x4096x512 .f32) shapeCasts_S16x4096x512_S16x4096x8x64))
        (broadcastInDim S16x8x4096x4096 ![] bcast_S_S16x8x4096x4096 (constant (F := Ideal) S_ .f32 0x3E000000#32)))
      (broadcastInDim S16x8x4096x4096 ![0, 1, 2, 3] bcast_S1x8x4096x4096_S16x8x4096x4096_0_1_2_3
        (broadcastInDim S1x8x4096x4096 ![1, 2, 3] bcast_S8x4096x4096_S1x8x4096x4096_1_2_3 (biasAll rel))))
    (broadcastInDim S16x8x4096x4096 ![] bcast_S_S16x8x4096x4096 (constant (F := Ideal) S_ .f32 0xFF800000#32))

/-- The largest score of each query. -/
def rowMax (s : FVec Ideal S16x8x4096x4096 .f32) : FVec Ideal S16x8x4096 .f32 :=
  maximumf (broadcastInDim S16x8x4096 ![] bcast_S_S16x8x4096 (constant (F := Ideal) S_ .f32 0xFF800000#32))
    (Host.reduce FloatOps.maximumf s (constant (F := Ideal) S_ .f32 0xFF800000#32) reducesTo_S16x8x4096x4096_S16x8x4096_d3 h_S_)

/-- A number per query repeated along the keys. -/
def alongKeys (x : FVec Ideal S16x8x4096 .f32) : FVec Ideal S16x8x4096x4096 .f32 :=
  broadcastInDim S16x8x4096x4096 ![0, 1, 2, 3] bcast_S16x8x4096x1_S16x8x4096x4096_0_1_2_3
    (broadcastInDim S16x8x4096x1 ![0, 1, 2] bcast_S16x8x4096_S16x8x4096x1_0_1_2 x)

/-- The sum along the keys. -/
def rowSum (e : FVec Ideal S16x8x4096x4096 .f32) : FVec Ideal S16x8x4096 .f32 :=
  Host.reduceAdd e (constant (F := Ideal) S_ .f32 0x00000000#32) reducesTo_S16x8x4096x4096_S16x8x4096_d3 h_S_

/-- The values averaged with the weights `p`, heads side by side. -/
def mix (v : FVec Ideal S16x4096x512 .f32) (p : FVec Ideal S16x8x4096x4096 .f32) : FVec Ideal S16x4096x512 .bf16 :=
  truncf .bf16
    (shapeCast S16x4096x512
      (transpose S16x4096x8x64 [0, 3, 1, 2]
        (Host.dotGeneral (F := Ideal) (φ₁ := .f32) (φ₂ := .f32) dot_S16x4096x8x64_S16x8x4096x4096_S16x8x64x4096_1_3_3_2_02_01 none
          (shapeCast S16x4096x8x64 v shapeCasts_S16x4096x512_S16x4096x8x64) p)
        transposes_S16x8x64x4096_S16x4096x8x64_0_3_1_2)
      shapeCasts_S16x4096x8x64_S16x4096x512)
    bitsLt_bf16_f32

/-- The scores' distances below their row's largest, exponentiated. -/
def expBelow (s : FVec Ideal S16x8x4096x4096 .f32) : FVec Ideal S16x8x4096x4096 .f32 := Host.exp (subf s (alongKeys (rowMax s)))

/-- Softmax of the scores along the keys, then the values averaged with it. -/
def average (s : FVec Ideal S16x8x4096x4096 .f32) (v : FVec Ideal S16x4096x512 .f32) : FVec Ideal S16x4096x512 .bf16 :=
  mix v (Host.divf (expBelow s) (alongKeys (rowSum (expBelow s))))

variable (m : (ℓ : Loc nD τ sig) → Buf (Elt Ideal) ℓ)

theorem term_eq (c : Dev nD) : Value.res_main_v60 m c
    = average (scores (m ((c.tc : Thread nD τ).loc main_arg0)) (m ((c.tc : Thread nD τ).loc main_arg1)))
        (extf .f32 (extractStridedSlice S16x4096x512 ![0, 0, 3072] (m ((c.tc : Thread nD τ).loc main_arg0)) slices_S16x4096x5632_S16x4096x512_0_0_3072 : FVec Ideal S16x4096x512 .bf16) bitsLt_bf16_f32) := by
  unfold Value.res_main_v60 average expBelow mix rowSum rowMax alongKeys scores biasAll biasCol visible chunk
  rfl

theorem chunk_at : ∀ t : Fin 4096, chunk (ix1 t) = BitVec.ofNat 32 (t.val / 64) := by
  intro t
  pointwise [chunk]
  revert t
  decide +kernel

theorem visible_word : ∀ (a b : Fin 64),
    IntOp.andi (IntOp.cmpi .sle (BitVec.ofNat 32 b.val) (BitVec.ofNat 32 a.val))
        (IntOp.cmpi .sge (BitVec.ofNat 32 b.val) (IntOp.subi (BitVec.ofNat 32 a.val) 8#32))
      = if b.val ≤ a.val ∧ a.val ≤ b.val + 8 then 1#1 else 0#1 := by decide +kernel

theorem visible_at (T K : Fin 4096) :
    visible (ix2 T K) = if K.val / 64 ≤ T.val / 64 ∧ T.val / 64 ≤ K.val / 64 + 8 then 1#1 else 0#1 := by
  pointwise [visible, chunk_at]
  exact visible_word ⟨T.val / 64, by omega⟩ ⟨K.val / 64, by omega⟩

/-- A distance clipped to 128 each way and moved up by 128, as a word. -/
def clipWord (d : BitVec 32) : BitVec 32 :=
  let a := IntOp.addi (IntOp.minsi 128#32 (IntOp.maxsi 4294967168#32 d)) 128#32
  Scalar.select (IntOp.cmpi .slt a 0#32) (IntOp.addi a 257#32) a

theorem clipWord_at : ∀ n : Fin 8192, min (clipWord (BitVec.ofNat 32 n.val - 4096#32)).toInt.toNat 256 = min (n.val - 3968) 256 := by
  decide +kernel

theorem biasCol_at (T K : Fin 4096) : biasCol (ix2 T K) = clipWord (IntOp.subi (BitVec.ofNat 32 T.val) (BitVec.ofNat 32 K.val)) := by
  pointwise [biasCol]
  rfl

theorem sub_word (T K : Fin 4096) : IntOp.subi (BitVec.ofNat 32 T.val) (BitVec.ofNat 32 K.val) = BitVec.ofNat 32 (T.val + 4096 - K.val) - 4096#32 := by
  show BitVec.ofNat 32 T.val - BitVec.ofNat 32 K.val = _
  have hT := T.isLt
  have hK := K.isLt
  bv_omega

theorem biasAll_at (rel : Vec Ideal S8x257 .f32) (h : Fin 8) (T K : Fin 4096) :
    biasAll rel (ix3 h T K) = rel (ix2 h ⟨min (T.val + 128 - K.val) 256, by omega⟩) := by
  unfold biasAll
  rw [gather_at]
  refine congrArg rel (congrArg (ix2 h) (Fin.ext ?_))
  show min (biasCol (ix2 T K)).toInt.toNat 256 = min (T.val + 128 - K.val) 256
  rw [biasCol_at, sub_word]
  refine (clipWord_at ⟨T.val + 4096 - K.val, by omega⟩).trans ?_
  dsimp only
  omega

end Cert.ReferenceIdeal.Attn
end
-- ==== Proof.Attn.Ref.lean ====
/- The reference program of the attention, read at an index. -/
module

public import proofs.«01_k».proof.Proof.Attn.RefWords
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Facts
open BandAttn

theorem scores_at (proj : Vec Ideal S16x4096x5632 .bf16) (rel : Vec Ideal S8x257 .f32) (b : Fin 16) (h : Fin 8) (T K : Fin 4096) :
    scores proj rel (ix4 b h T K) = score proj rel b h T K := by
  pointwise [scores, visible_at, biasAll_at]
  unfold score
  split
  · rfl
  · exact negInf

/-- A maximum along the last of four axes, from minus infinity, at an index, for any extents. -/
theorem hostMax_at {n0 n1 n2 n3 : Nat} {u : Shape} (x : FVec Ideal ⟨4, ![n0, n1, n2, n3]⟩ .f32) (init : FVec Ideal u .f32)
    (low : FVec Ideal ⟨3, ![n0, n1, n2]⟩ .f32)
    (h : (⟨4, ![n0, n1, n2, n3]⟩ : Shape).ReducesTo [3] ⟨3, ![n0, n1, n2]⟩) (hu : 0 < u.numel)
    (hinit : ∀ i, init i = (⊥ : EReal)) (hlow : ∀ i, low i = (⊥ : EReal)) (a : Fin n0) (b : Fin n1) (c : Fin n2) :
    maximumf low (Host.reduce FloatOps.maximumf x init h hu) (ix3 a b c)
      = Finset.univ.fold (max : EReal → EReal → EReal) ⊥ fun k => x (ix4 a b c k) := by
  pointwise
  rw [hinit, hlow, max_eq_right bot_le]

theorem rowMax_at (s : FVec Ideal S16x8x4096x4096 .f32) (b : Fin 16) (h : Fin 8) (T : Fin 4096) :
    rowMax s (ix3 b h T) = Finset.univ.fold max ⊥ fun K => s (ix4 b h T K) := by
  unfold rowMax
  exact hostMax_at s _ _ _ _ (fun _ => negInf) (fun _ => negInf) b h T

theorem rowSum_at (s : FVec Ideal S16x8x4096x4096 .f32) (b : Fin 16) (h : Fin 8) (T : Fin 4096) :
    rowSum s (ix3 b h T) = ∑ K, s (ix4 b h T K) := by
  pointwise [rowSum]

theorem alongKeys_at (x : FVec Ideal S16x8x4096 .f32) (b : Fin 16) (h : Fin 8) (T K : Fin 4096) :
    alongKeys x (ix4 b h T K) = x (ix3 b h T) := by
  pointwise [alongKeys]

theorem mix_at (v : FVec Ideal S16x4096x512 .f32) (p : FVec Ideal S16x8x4096x4096 .f32) (b : Fin 16) (T : Fin 4096) (l : Fin 512) :
    mix v p (ix3 b T l) = ∑ K, p (ix4 b (head l) T K) * v (ix3 b K l) := by
  pointwise [mix]
  exact Finset.sum_congr rfl fun K _ => mul_comm _ _

theorem average_at (s : FVec Ideal S16x8x4096x4096 .f32) (v : FVec Ideal S16x4096x512 .f32) (b : Fin 16) (T : Fin 4096) (l : Fin 512) :
    average s v (ix3 b T l) = softAvg (fun K => s (ix4 b (head l) T K)) (fun K => v (ix3 b K l)) := by
  have he (b : Fin 16) (h : Fin 8) (T K : Fin 4096) :
      expBelow s (ix4 b h T K) = Ideal.exp (s (ix4 b h T K) - Finset.univ.fold max ⊥ fun K => s (ix4 b h T K)) := by
    rw [← rowMax_at, ← alongKeys_at (rowMax s) b h T K]
    rfl
  unfold average softAvg
  rw [mix_at]
  refine Finset.sum_congr rfl fun K _ => congrArg (· * _) ?_
  show Ideal.div (expBelow s (ix4 b (head l) T K)) (alongKeys (rowSum (expBelow s)) (ix4 b (head l) T K)) = _
  rw [alongKeys_at, rowSum_at, he]
  exact congrArg _ (Finset.sum_congr rfl fun K _ => he _ _ _ _)

variable (m : (ℓ : Loc nD τ sig) → Buf (Elt Ideal) ℓ)

/-- The reference's result is `attnAt` of its arguments. -/
theorem term_at (c : Dev nD) : Value.res_main_v60 m c = attnAt (m ((c.tc : Thread nD τ).loc main_arg0)) (m ((c.tc : Thread nD τ).loc main_arg1)) := by
  rw [term_eq]
  funext y
  idx_vars y
  rw [average_at]
  unfold attnAt
  refine congrArg₂ softAvg (funext fun K => scores_at _ _ _ _ _ _) (funext fun K => ?_)
  pointwise

end Cert.ReferenceIdeal.Attn
end
-- ==== Proof.Attn.Pre.lean ====
/- What the precondition says: the query and key columns and the relative bias hold real numbers. -/
module

public import proofs.«01_k».proof.Pre_finite_scores
public import proofs.«01_k».proof.Proof.Attn.Window
public import Idealize.ShloMosaic.Lib.Pointwise
public import Idealize.ShloMosaic.Lib.ReduceAll

@[expose] public section

set_option maxRecDepth 16384

noncomputable section

open Idealize.ShloMosaic

namespace Cert.Pre_finite_scores

/-- The side conditions of the precondition's operations. -/
instance facts : Facts where
  slices_S16x4096x5632_S16x4096x1024_0_0_2048 := by decide
  bitsLt_bf16_f32 := by decide
  bcast_S_S16x4096x1024 := by decide
  reducesTo_S16x4096x1024_S_d0_1_2 := by decide
  h_S_ := by decide
  bcast_S_S8x257 := by decide
  reducesTo_S8x257_S_d0_1 := by decide

/-- An extended real whose magnitude is below plus infinity is a real number. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- A conjunction over all elements of an array of comparisons, whatever the extents. -/
theorem all_lt {s : Shape} {t u : Shape} {axes : List (Fin s.rank)} [Subsingleton t.Idx] (x : s.Idx → EReal) (p : s.Idx → BitVec 1) (init : u.Idx → BitVec 1)
    (h : s.ReducesTo axes t) (hu : 0 < u.numel) (j : t.Idx) (e : Host.reduce IntOp.andi p init h hu j = 1#1)
    (hp : ∀ i, p i = Ideal.cmp .olt (max (x i) (-(x i))) (Ideal.ofBits .f32 0x7F800000#32)) (i : s.Idx) :
    ∃ r : ℝ, x i = r :=
  real_of_lt (x i) ((hp i).symm.trans (Host.reduce_andi_all p init h hu j e i))

/-- The precondition gives finiteness. -/
theorem finite (proj : FVec Ideal S16x4096x5632 .bf16) (rel : FVec Ideal S8x257 .f32) (h : fn (F := Ideal) proj rel = fun _ => 1#1) :
    Cert.KernelIdeal.Attn.Finite proj rel := by
  have h' := congrFun h (fun a => a.elim0)
  dsimp only [fn] at h'
  have hs : ∀ a b : BitVec 1, IntOp.andi a b = 1#1 → a = 1#1 ∧ b = 1#1 := by decide
  haveI : Subsingleton S_.Idx := ⟨fun a b => funext fun i => i.elim0⟩
  obtain ⟨h1, h2⟩ := hs _ _ h'
  have qk := all_lt (extractStridedSlice S16x4096x1024 ![0, 0, 2048] proj facts.slices_S16x4096x5632_S16x4096x1024_0_0_2048) _ _ _ _ _ h1 fun _ => rfl
  have rl := all_lt rel _ _ _ _ _ h2 fun _ => rfl
  refine ⟨fun b T l => ?_, fun h j => rl (ix2 h j)⟩
  obtain ⟨r, hr⟩ := qk (ix3 b T l)
  refine ⟨r, Eq.trans ?_ hr⟩
  pointwise

end Cert.Pre_finite_scores
end
-- ==== Proof.Inproj.Spec.lean ====
/- What the in-projection computes, over free arrays. -/
module

public import Idealize.ShloMosaic.PureOps.Ideal
public import Idealize.ShloMosaic.Lib.Pointwise

@[expose] public section

noncomputable section

open Idealize.ShloMosaic

namespace InprojSpec

/-- A row scaled to mean square one, with the gain, scale and shift of its columns. -/
def normed (x g sc sh : Fin 1024 → EReal) (d : Fin 1024) : EReal :=
  x d * Ideal.rsqrt (Ideal.div (∑ k : Fin 1024, x k * x k) (Ideal.ofBits .f32 0x44800000#32) + Ideal.ofBits .f32 0x358637BD#32) * g d * (1 + sc d) + sh d

/-- Row `T` of example `b`, normed and modulated: the shift stands in the modulation's first 1024 columns, the scale in
    the next 1024. -/
def rowAt (x : FVec Ideal ⟨3, ![16, 4096, 1024]⟩ .f32) (md : FVec Ideal ⟨2, ![16, 6144]⟩ .f32) (g : FVec Ideal ⟨1, ![1024]⟩ .f32)
    (b : Fin 16) (T : Fin 4096) (d : Fin 1024) : EReal :=
  normed (fun k => x (ix3 b T k)) (fun k => g (ix1 k)) (fun k => md (ix2 b ⟨1024 + k.val, by omega⟩)) (fun k => md (ix2 b ⟨k.val, by omega⟩)) d

/-- The column of the input projection that stands at column `n` of the first result: the two branch gates first. -/
def col (n : Fin 5632) : Fin 5640 := if h : n.val < 2048 then ⟨3592 + n.val, by omega⟩ else ⟨n.val - 2048, by omega⟩

/-- The eight column ranges laid end to end read the column `col` names. -/
theorem col_ladder (f : Fin 5640 → EReal) (n : Fin 5632) :
    (if h : n.val < 1024 then f ⟨3592 + n.val, by omega⟩
    else if h : n.val - 1024 < 1024 then f ⟨4616 + (n.val - 1024), by omega⟩
    else if h : n.val - 1024 - 1024 < 512 then f ⟨n.val - 1024 - 1024, by omega⟩
    else if h : n.val - 1024 - 1024 - 512 < 512 then f ⟨512 + (n.val - 1024 - 1024 - 512), by omega⟩
    else if h : n.val - 1024 - 1024 - 512 - 512 < 512 then f ⟨1024 + (n.val - 1024 - 1024 - 512 - 512), by omega⟩
    else if h : n.val - 1024 - 1024 - 512 - 512 - 512 < 1024 then f ⟨1536 + (n.val - 1024 - 1024 - 512 - 512 - 512), by omega⟩
    else if h : n.val - 1024 - 1024 - 512 - 512 - 512 - 1024 < 512 then f ⟨2560 + (n.val - 1024 - 1024 - 512 - 512 - 512 - 1024), by omega⟩
    else f ⟨3072 + (n.val - 1024 - 1024 - 512 - 512 - 512 - 1024 - 512), by omega⟩) = f (col n) := by
  have key : ∀ (a : Nat) (ha : a < 5640), (n.val < 2048 → a = 3592 + n.val) → (¬ n.val < 2048 → a = n.val - 2048) → f ⟨a, ha⟩ = f (col n) := by
    intro a ha h1 h2
    refine congrArg f (Fin.ext ?_)
    unfold col
    split
    · exact h1 ‹_›
    · exact h2 ‹_›
  have hn := n.isLt
  repeat' split
  all_goals exact key _ _ (fun _ => by omega) (fun _ => by omega)

/-- The bias of gate `n`: the input gates' biases, then the forget gates'. -/
def gateBias (bi bf : FVec Ideal ⟨1, ![4]⟩ .f32) (n : Fin 8) : EReal := if h : n.val < 4 then bi (ix1 ⟨n.val, h⟩) else bf (ix1 ⟨n.val - 4, by omega⟩)

/-- Row `T` of example `b` against column `n` of the weights. -/
def projAt (x : FVec Ideal ⟨3, ![16, 4096, 1024]⟩ .f32) (md : FVec Ideal ⟨2, ![16, 6144]⟩ .f32) (g : FVec Ideal ⟨1, ![1024]⟩ .f32) (w : FVec Ideal ⟨2, ![1024, 5640]⟩ .f32)
    (b : Fin 16) (T : Fin 4096) (n : Fin 5640) : EReal := ∑ k : Fin 1024, rowAt x md g b T k * w (ix2 k n)

/-- Gate `n` of row `T` of example `b`. -/
def gateAt (x : FVec Ideal ⟨3, ![16, 4096, 1024]⟩ .f32) (md : FVec Ideal ⟨2, ![16, 6144]⟩ .f32) (g : FVec Ideal ⟨1, ![1024]⟩ .f32) (w : FVec Ideal ⟨2, ![1024, 5640]⟩ .f32)
    (bi bf : FVec Ideal ⟨1, ![4]⟩ .f32) (b : Fin 16) (T : Fin 4096) (n : Fin 8) : EReal :=
  projAt x md g w b T ⟨3584 + n.val, by omega⟩ + gateBias bi bf n

/-- The first result: the projection, its columns reordered. -/
def mainArr (x : FVec Ideal ⟨3, ![16, 4096, 1024]⟩ .f32) (md : FVec Ideal ⟨2, ![16, 6144]⟩ .f32) (g : FVec Ideal ⟨1, ![1024]⟩ .f32) (w : FVec Ideal ⟨2, ![1024, 5640]⟩ .f32) :
    FVec Ideal ⟨3, ![16, 4096, 5632]⟩ .bf16 := fun i => projAt x md g w (i 0) (i 1) (col (i 2))

/-- The second result: the gates along 128 lanes, zero past the eighth. -/
def gateArr (x : FVec Ideal ⟨3, ![16, 4096, 1024]⟩ .f32) (md : FVec Ideal ⟨2, ![16, 6144]⟩ .f32) (g : FVec Ideal ⟨1, ![1024]⟩ .f32) (w : FVec Ideal ⟨2, ![1024, 5640]⟩ .f32)
    (bi bf : FVec Ideal ⟨1, ![4]⟩ .f32) : FVec Ideal ⟨3, ![16, 4096, 128]⟩ .f32 :=
  fun i => if h : (i 2).val < 8 then gateAt x md g w bi bf (i 0) (i 1) ⟨(i 2).val, h⟩ else 0

/-- The third result: the gates transposed. -/
def gateRowsArr (x : FVec Ideal ⟨3, ![16, 4096, 1024]⟩ .f32) (md : FVec Ideal ⟨2, ![16, 6144]⟩ .f32) (g : FVec Ideal ⟨1, ![1024]⟩ .f32) (w : FVec Ideal ⟨2, ![1024, 5640]⟩ .f32)
    (bi bf : FVec Ideal ⟨1, ![4]⟩ .f32) : FVec Ideal ⟨3, ![16, 8, 4096]⟩ .f32 := fun i => gateAt x md g w bi bf (i 0) (i 2) (i 1)

end InprojSpec
end
-- ==== Proof.Inproj.Pay.lean ====
/- What one grid point of the in-projection stores, from the blocks it reads. -/
module

public import proofs.«01_k».proof.Proof.Inproj.Spec
public import proofs.«01_k».proof.Proof.Gen.Kernel2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen InprojSpec

/-- The normed and modulated rows of a block. -/
theorem rows_block (x : Vec Ideal S1x512x1024 .f32) (g : Vec Ideal S1x1024 .f32) (sc sh : Vec Ideal S1x1x1024 .f32) (T : Fin 512) (d : Fin 1024) :
    k0_pay4 x g sc sh (ix2 T d) = normed (fun k => x (ix3 0 T k)) (fun k => g (ix2 0 k)) (fun k => sc (ix3 0 0 k)) (fun k => sh (ix3 0 0 k)) d := by
  pointwise [k0_pay4, normed]

/-- The main tile: rows against weight columns. -/
theorem main_block (x : Vec Ideal S1x512x1024 .f32) (g : Vec Ideal S1x1024 .f32) (sc sh : Vec Ideal S1x1x1024 .f32) (w : Vec Ideal S1024x5632 .bf16) (T : Fin 512) (n : Fin 5632) :
    k0_pay3 (k0_pay5 x g sc sh) w (ix3 0 T n) = ∑ k : Fin 1024, k0_pay4 x g sc sh (ix2 T k) * w (ix2 k n) := by
  pointwise [k0_pay3, k0_pay5]

/-- The gate tile: rows against the gates' columns, plus the biases. -/
theorem gate_block (x : Vec Ideal S1x512x1024 .f32) (g : Vec Ideal S1x1024 .f32) (sc sh : Vec Ideal S1x1x1024 .f32) (w : Vec Ideal S1024x128 .bf16) (b : Vec Ideal S1x128 .f32) (T : Fin 512) (n : Fin 128) :
    k0_pay1 (k0_pay6 x g sc sh w b) (ix3 0 T n) = (∑ k : Fin 1024, k0_pay4 x g sc sh (ix2 T k) * w (ix2 k n)) + b (ix2 0 n) := by
  pointwise [k0_pay1, k0_pay6]

/-- The transposed gate tile: the gates' rows against the rows of the block, plus the biases. -/
theorem gateT_block (h : FVec Ideal S512x1024 .bf16) (w : Vec Ideal S8x1024 .bf16) (b : Vec Ideal S8x512 .f32) (T : Fin 512) (n : Fin 8) :
    k0_pay2 h w b (ix3 0 n T) = (∑ k : Fin 1024, w (ix2 n k) * h (ix2 T k)) + b (ix2 n T) := by
  pointwise [k0_pay2]

variable (m : (ℓ : Loc nD τ sig) → Buf (Elt Ideal) ℓ)

theorem out9 (c : Dev nD) (t : Fin cfg0.N) : (outsAt0 m c t).1 = k0_pay3 (k0_pay5 (iblk m c 0 t) (iblk m c 3 t) (iblk m c 2 t) (iblk m c 1 t)) (iblk m c 4 t) := by
  unfold outsAt0
  frame_out

theorem out10 (c : Dev nD) (t : Fin cfg0.N) :
    (outsAt0 m c t).2.1 = k0_pay1 (k0_pay6 (iblk m c 0 t) (iblk m c 3 t) (iblk m c 2 t) (iblk m c 1 t) (iblk m c 5 t) (iblk m c 7 t)) := by
  unfold outsAt0
  frame_out

theorem out11 (c : Dev nD) (t : Fin cfg0.N) :
    (outsAt0 m c t).2.2 = k0_pay2 (k0_pay4 (iblk m c 0 t) (iblk m c 3 t) (iblk m c 2 t) (iblk m c 1 t)) (iblk m c 6 t) (iblk m c 8 t) := by
  unfold outsAt0
  frame_out

end Cert.Kernel2Ideal.Inproj
end
-- ==== Proof.Inproj.Host.lean ====
/- The in-projection's operands that the host prepares: the modulation's rows, the reordered weight columns and the gates'
   weights and biases, index by index. -/
module

public import proofs.«01_k».proof.Proof.Inproj.Spec
public import proofs.«01_k».proof.Proof.Gen.Kernel2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel2Ideal.Inproj

open Cert.Kernel2Ideal Cert.Kernel2Ideal.Gen InprojSpec

variable (m : (ℓ : Loc nD τ sig) → Buf (Elt Ideal) ℓ)

/-- The shift's row. -/
theorem shift_entry (c : Dev nD) (b : Fin 16) (d : Fin 1024) :
    V m c main_v6 (ix3 b 0 d) = m ((c : Thread nD τ).loc main_arg1) (ix2 b ⟨d.val, by omega⟩) := by
  entry_read
  pointwise

/-- The scale's row. -/
theorem scale_entry (c : Dev nD) (b : Fin 16) (d : Fin 1024) :
    V m c main_v7 (ix3 b 0 d) = m ((c : Thread nD τ).loc main_arg1) (ix2 b ⟨1024 + d.val, by omega⟩) := by
  entry_read
  pointwise

/-- The norm's gain. -/
theorem gain_entry (c : Dev nD) (d : Fin 1024) :
    V m c main_v35 (ix2 0 d) = m ((c : Thread nD τ).loc main_arg2) (ix1 d) := by
  entry_read
  pointwise

end Cert.Kernel2Ideal.Inproj
end
-- ==== Proof.Inproj.HostW.lean ====
/- The reordered weight columns of the in-projection, index by index. -/
module

public import proofs.«01_k».proof.Proof.Inproj.Host

@[expose] public section

set_option maxRecDepth 16384

noncomputable section

open Idealize.ShloMosaic Idealize.ShloMosaic.TcCoe Idealize.SL.Sem

namespace Cert.Kernel2Ideal.Inproj

open Cert.Kernel2Ideal Cert.Kernel2Ideal.Gen InprojSpec

variable (m : (ℓ : Loc nD τ sig) → Buf (Elt Ideal) ℓ)

/-- The reordered weights: the two branch gates' columns first, then the rest in their order, the recurrence gates' columns left out. -/
def reordered (W : FVec Ideal S1024x5640 .f32) : FVec Ideal S1024x5632 .bf16 :=
  truncf .bf16 (concatenate S1024x5632 1 [⟨S1024x1024, extractStridedSlice S1024x1024 ![0, 3592] W slices_S1024x5640_S1024x1024_0_3592⟩, ⟨S1024x1024, extractStridedSlice S1024x1024 ![0, 4616] W slices_S1024x5640_S1024x1024_0_4616⟩, ⟨S1024x512, extractStridedSlice S1024x512 ![0, 0] W slices_S1024x5640_S1024x512_0_0⟩, ⟨S1024x512, extractStridedSlice S1024x512 ![0, 512] W slices_S1024x5640_S1024x512_0_512⟩,
    ⟨S1024x512, extractStridedSlice S1024x512 ![0, 1024] W slices_S1024x5640_S1024x512_0_1024⟩, ⟨S1024x1024, extractStridedSlice S1024x1024 ![0, 1536] W slices_S1024x5640_S1024x1024_0_1536⟩, ⟨S1024x512, extractStridedSlice S1024x512 ![0, 2560] W slices_S1024x5640_S1024x512_0_2560⟩, ⟨S1024x512, extractStridedSlice S1024x512 ![0, 3072] W slices_S1024x5640_S1024x512_0_3072⟩]
    concatenates_S1024x1024_S1024x1024_S1024x512_S1024x512_S1024x512_S1024x1024_S1024x512_S1024x512_S1024x5632_d1) bitsLt_bf16_f32

theorem weight_array (c : Dev nD) : V m c main_v21 = reordered (m ((c : Thread nD τ).loc main_arg3)) := by
  sl_kernel_rfl

theorem reordered_at (W : FVec Ideal S1024x5640 .f32) (k : Fin 1024) (n : Fin 5632) : reordered W (ix2 k n) = W (ix2 k (col n)) := by
  have hn := n.isLt
  pointwise [reordered]
  exact col_ladder (fun j => W (ix2 k j)) n

end Cert.Kernel2Ideal.Inproj
end
-- ==== Proof.Inproj.HostG.lean ====
/- The recurrence gates' weights and biases, index by index. -/
module

public import proofs.«01_k».proof.Proof.Inproj.Host

@[expose] public section

set_option maxRecDepth 16384

noncomputable section

open Idealize.ShloMosaic Idealize.ShloMosaic.TcCoe Idealize.SL.Sem

namespace Cert.Kernel2Ideal.Inproj

open Cert.Kernel2Ideal Cert.Kernel2Ideal.Gen InprojSpec

variable (m : (ℓ : Loc nD τ sig) → Buf (Elt Ideal) ℓ)

/-- The gates' weight columns, eight of them, then zeros. -/
def gateCols (W : FVec Ideal S1024x5640 .f32) : FVec Ideal S1024x128 .bf16 :=
  truncf .bf16 (concatenate S1024x128 1 [⟨S1024x4, extractStridedSlice S1024x4 ![0, 3584] W slices_S1024x5640_S1024x4_0_3584⟩, ⟨S1024x4, extractStridedSlice S1024x4 ![0, 3588] W slices_S1024x5640_S1024x4_0_3588⟩,
    ⟨S1024x120, broadcastInDim S1024x120 ![] bcast_S_S1024x120 (constant (F := Ideal) S_ .f32 0x00000000#32)⟩]
    concatenates_S1024x4_S1024x4_S1024x120_S1024x128_d1) bitsLt_bf16_f32

theorem gateCols_array (c : Dev nD) : V m c main_v26 = gateCols (m ((c : Thread nD τ).loc main_arg3)) := by
  sl_kernel_rfl

theorem gateRows_array (c : Dev nD) : V m c main_v28 = transpose S8x1024 [1, 0] (extractStridedSlice S1024x8 ![0, 0] (gateCols (m ((c : Thread nD τ).loc main_arg3))) slices_S1024x128_S1024x8_0_0) transposes_S1024x8_S8x1024_1_0 := by
  sl_kernel_rfl

theorem gateCols_at (W : FVec Ideal S1024x5640 .f32) (k : Fin 1024) (n : Fin 128) :
    gateCols W (ix2 k n) = if h : n.val < 8 then W (ix2 k ⟨3584 + n.val, by omega⟩) else (0 : EReal) := by
  have hn := n.isLt
  pointwise [gateCols]
  by_cases h8 : n.val < 8
  · by_cases h4 : n.val < 4
    · rw [dif_pos h4, dif_pos h8]
    · rw [dif_neg h4, dif_pos (show n.val - 4 < 4 by omega), dif_pos h8]
      exact congrArg (fun j => W (ix2 k j)) (Fin.ext (by dsimp only; omega))
  · rw [dif_neg (show ¬ n.val < 4 by omega), dif_neg (show ¬ n.val - 4 < 4 by omega), dif_neg h8]

/-- Row `n` of the transposed gate weights is column `n` of the gates' eight. -/
theorem gateRows_at (W : FVec Ideal S1024x128 .bf16) (n : Fin 8) (k : Fin 1024) :
    transpose S8x1024 [1, 0] (extractStridedSlice S1024x8 ![0, 0] W slices_S1024x128_S1024x8_0_0) transposes_S1024x8_S8x1024_1_0 (ix2 n k) = W (ix2 k ⟨n.val, by omega⟩) := by
  pointwise

/-- The biases along the 128 lanes, zero past the eighth. -/
theorem bias_entry (c : Dev nD) (n : Fin 128) :
    V m c main_v32 (ix2 0 n) = if h : n.val < 8 then gateBias (m ((c : Thread nD τ).loc main_arg4)) (m ((c : Thread nD τ).loc main_arg5)) ⟨n.val, h⟩ else (0 : EReal) := by
  entry_read
  pointwise [gateBias]

/-- The biases down the rows of the transposed gates. -/
theorem biasT_entry (c : Dev nD) (n : Fin 8) (T : Fin 512) :
    V m c main_v34 (ix2 n T) = gateBias (m ((c : Thread nD τ).loc main_arg4)) (m ((c : Thread nD τ).loc main_arg5)) n := by
  entry_read
  pointwise [gateBias]

end Cert.Kernel2Ideal.Inproj
end
-- ==== Proof.Inproj.Blocks.lean ====
/- The in-projection's blocks at a grid point, as entries of the arrays they are cut from. -/
module

public import proofs.«01_k».proof.Proof.Inproj.HostW
public import proofs.«01_k».proof.Proof.Inproj.HostG

@[expose] public section

set_option maxRecDepth 16384

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen InprojSpec

/-- Where the windows stand at a grid point: examples by the first coordinate, blocks of 512 rows by the second. -/
theorem idx : ∀ t : Fin cfg0.N, win0_0.index t = ![t.val / 8, t.val % 8, 0] ∧ win0_1.index t = ![t.val / 8, 0, 0] ∧ win0_2.index t = ![t.val / 8, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val / 8, t.val % 8, 0] ∧ win0_10.index t = ![t.val / 8, t.val % 8, 0]
    ∧ win0_11.index t = ![t.val / 8, 0, t.val % 8] :=
  (by decide +kernel : ∀ t : Fin grid0.N, _)

theorem x_block (A : Vec Ideal S16x4096x1024 .f32) (t : Fin cfg0.N) (r : Fin 512) (k : Fin 1024) (b : Fin 16) (T : Fin 4096)
    (hb : b.val = t.val / 8) (hT : T.val = t.val % 8 * 512 + r.val) : ((cfg0.win 0).blk t).view.read (Elt Ideal) A (ix3 0 r k) = A (ix3 b T k) := by
  blk_ext [idx t]

theorem shift_block (A : Vec Ideal S16x1x1024 .f32) (t : Fin cfg0.N) (k : Fin 1024) (b : Fin 16) (hb : b.val = t.val / 8) :
    ((cfg0.win 1).blk t).view.read (Elt Ideal) A (ix3 0 0 k) = A (ix3 b 0 k) := by
  blk_ext [idx t]

theorem scale_block (A : Vec Ideal S16x1x1024 .f32) (t : Fin cfg0.N) (k : Fin 1024) (b : Fin 16) (hb : b.val = t.val / 8) :
    ((cfg0.win 2).blk t).view.read (Elt Ideal) A (ix3 0 0 k) = A (ix3 b 0 k) := by
  blk_ext [idx t]

theorem gain_block (A : Vec Ideal S1x1024 .f32) (t : Fin cfg0.N) (k : Fin 1024) : ((cfg0.win 3).blk t).view.read (Elt Ideal) A (ix2 0 k) = A (ix2 0 k) := by
  blk_ext [idx t]

theorem weight_block (A : Vec Ideal S1024x5632 .bf16) (t : Fin cfg0.N) (k : Fin 1024) (n : Fin 5632) : ((cfg0.win 4).blk t).view.read (Elt Ideal) A (ix2 k n) = A (ix2 k n) := by
  blk_ext [idx t]

theorem gateCols_block (A : Vec Ideal S1024x128 .bf16) (t : Fin cfg0.N) (k : Fin 1024) (n : Fin 128) : ((cfg0.win 5).blk t).view.read (Elt Ideal) A (ix2 k n) = A (ix2 k n) := by
  blk_ext [idx t]

theorem gateRows_block (A : Vec Ideal S8x1024 .bf16) (t : Fin cfg0.N) (k : Fin 1024) (n : Fin 8) : ((cfg0.win 6).blk t).view.read (Elt Ideal) A (ix2 n k) = A (ix2 n k) := by
  blk_ext [idx t]

theorem bias_block (A : Vec Ideal S1x128 .f32) (t : Fin cfg0.N) (n : Fin 128) : ((cfg0.win 7).blk t).view.read (Elt Ideal) A (ix2 0 n) = A (ix2 0 n) := by
  blk_ext [idx t]

theorem biasT_block (A : Vec Ideal S8x512 .f32) (t : Fin cfg0.N) (n : Fin 8) (r : Fin 512) : ((cfg0.win 8).blk t).view.read (Elt Ideal) A (ix2 n r) = A (ix2 n r) := by
  blk_ext [idx t]

variable (m : (ℓ : Loc nD τ sig) → Buf (Elt Ideal) ℓ)

theorem x_at (c : Dev nD) (t : Fin cfg0.N) (r : Fin 512) (k : Fin 1024) (b : Fin 16) (T : Fin 4096) (hb : b.val = t.val / 8) (hT : T.val = t.val % 8 * 512 + r.val) :
    iblk m c 0 t (ix3 0 r k) = m ((c : Thread nD τ).loc main_arg0) (ix3 b T k) := by
  rw [← V_main_arg0 m c]
  exact x_block (V m c main_arg0) t r k b T hb hT

theorem shift_at (c : Dev nD) (t : Fin cfg0.N) (k : Fin 1024) (b : Fin 16) (hb : b.val = t.val / 8) :
    iblk m c 1 t (ix3 0 0 k) = m ((c : Thread nD τ).loc main_arg1) (ix2 b ⟨k.val, by omega⟩) :=
  (shift_block (V m c main_v6) t k b hb).trans (shift_entry m c b k)

theorem scale_at (c : Dev nD) (t : Fin cfg0.N) (k : Fin 1024) (b : Fin 16) (hb : b.val = t.val / 8) :
    iblk m c 2 t (ix3 0 0 k) = m ((c : Thread nD τ).loc main_arg1) (ix2 b ⟨1024 + k.val, by omega⟩) :=
  (scale_block (V m c main_v7) t k b hb).trans (scale_entry m c b k)

theorem gain_at (c : Dev nD) (t : Fin cfg0.N) (k : Fin 1024) : iblk m c 3 t (ix2 0 k) = m ((c : Thread nD τ).loc main_arg2) (ix1 k) :=
  (gain_block (V m c main_v35) t k).trans (gain_entry m c k)

theorem weight_at (c : Dev nD) (t : Fin cfg0.N) (k : Fin 1024) (n : Fin 5632) :
    iblk m c 4 t (ix2 k n) = m ((c : Thread nD τ).loc main_arg3) (ix2 k (col n)) :=
  (weight_block (V m c main_v21) t k n).trans ((congrFun (weight_array m c) _).trans (reordered_at _ k n))

theorem gateCols_at' (c : Dev nD) (t : Fin cfg0.N) (k : Fin 1024) (n : Fin 128) :
    iblk m c 5 t (ix2 k n) = if h : n.val < 8 then m ((c : Thread nD τ).loc main_arg3) (ix2 k ⟨3584 + n.val, by omega⟩) else (0 : EReal) :=
  (gateCols_block (V m c main_v26) t k n).trans ((congrFun (gateCols_array m c) _).trans (gateCols_at _ k n))

theorem gateRows_at' (c : Dev nD) (t : Fin cfg0.N) (k : Fin 1024) (n : Fin 8) :
    iblk m c 6 t (ix2 n k) = m ((c : Thread nD τ).loc main_arg3) (ix2 k ⟨3584 + n.val, by omega⟩) :=
  (gateRows_block (V m c main_v28) t k n).trans ((congrFun (gateRows_array m c) _).trans ((gateRows_at _ n k).trans
    ((gateCols_at _ k ⟨n.val, by omega⟩).trans (dif_pos n.isLt))))

theorem bias_at (c : Dev nD) (t : Fin cfg0.N) (n : Fin 128) :
    iblk m c 7 t (ix2 0 n) = if h : n.val < 8 then gateBias (m ((c : Thread nD τ).loc main_arg4)) (m ((c : Thread nD τ).loc main_arg5)) ⟨n.val, h⟩ else (0 : EReal) :=
  (bias_block (V m c main_v32) t n).trans (bias_entry m c n)

theorem biasT_at (c : Dev nD) (t : Fin cfg0.N) (n : Fin 8) (r : Fin 512) :
    iblk m c 8 t (ix2 n r) = gateBias (m ((c : Thread nD τ).loc main_arg4)) (m ((c : Thread nD τ).loc main_arg5)) n :=
  (biasT_block (V m c main_v34) t n r).trans (biasT_entry m c n r)

end Cert.Kernel2Ideal.Inproj
end
-- ==== Proof.Inproj.Final.lean ====
/- The in-projection call's three result arrays are the projection, the gates and the transposed gates, index by index. -/
module

public import proofs.«01_k».proof.Proof.Inproj.Pay
public import proofs.«01_k».proof.Proof.Inproj.Blocks

@[expose] public section

set_option maxRecDepth 16384

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen InprojSpec

variable (m : (ℓ : Loc nD τ sig) → Buf (Elt Ideal) ℓ)

/-- A row of a grid point's block, normed and modulated, is the row it stands for. -/
theorem row (c : Dev nD) (t : Fin cfg0.N) (r : Fin 512) (k : Fin 1024) (b : Fin 16) (T : Fin 4096) (hb : b.val = t.val / 8) (hT : T.val = t.val % 8 * 512 + r.val) :
    k0_pay4 (iblk m c 0 t) (iblk m c 3 t) (iblk m c 2 t) (iblk m c 1 t) (ix2 r k) = rowAt (m ((c : Thread nD τ).loc main_arg0)) (m ((c : Thread nD τ).loc main_arg1)) (m ((c : Thread nD τ).loc main_arg2)) b T k := by
  rw [rows_block]
  unfold rowAt
  rw [funext fun k => x_at m c t r k b T hb hT, funext fun k => gain_at m c t k, funext fun k => scale_at m c t k b hb, funext fun k => shift_at m c t k b hb]

theorem tile9 (c : Dev nD) (t : Fin cfg0.N) (r : Fin 512) (n : Fin 5632) (b : Fin 16) (T : Fin 4096) (hb : b.val = t.val / 8) (hT : T.val = t.val % 8 * 512 + r.val) :
    k0_pay3 (k0_pay5 (iblk m c 0 t) (iblk m c 3 t) (iblk m c 2 t) (iblk m c 1 t)) (iblk m c 4 t) (ix3 0 r n) = mainArr (m ((c : Thread nD τ).loc main_arg0)) (m ((c : Thread nD τ).loc main_arg1)) (m ((c : Thread nD τ).loc main_arg2)) (m ((c : Thread nD τ).loc main_arg3)) (ix3 b T n) :=
  (main_block _ _ _ _ _ r n).trans (Finset.sum_congr rfl fun k _ => congrArg₂ (· * ·) (row m c t r k b T hb hT) (weight_at m c t k n))

theorem tile10 (c : Dev nD) (t : Fin cfg0.N) (r : Fin 512) (n : Fin 128) (b : Fin 16) (T : Fin 4096) (hb : b.val = t.val / 8) (hT : T.val = t.val % 8 * 512 + r.val) :
    k0_pay1 (k0_pay6 (iblk m c 0 t) (iblk m c 3 t) (iblk m c 2 t) (iblk m c 1 t) (iblk m c 5 t) (iblk m c 7 t)) (ix3 0 r n) = gateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b T n) := by
  refine (gate_block _ _ _ _ _ _ r n).trans ((congrArg₂ (· + ·) (Finset.sum_congr rfl fun k _ => congrArg₂ (· * ·) (row m c t r k b T hb hT) (gateCols_at' m c t k n)) (bias_at m c t n)).trans ?_)
  show _ = if h : n.val < 8 then gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b T ⟨n.val, h⟩ else (0 : EReal)
  by_cases h : n.val < 8
  · simp only [dif_pos h]
    rfl
  · simp only [dif_neg h, mul_zero, Finset.sum_const_zero, add_zero]

theorem tile11 (c : Dev nD) (t : Fin cfg0.N) (r : Fin 512) (n : Fin 8) (b : Fin 16) (T : Fin 4096) (hb : b.val = t.val / 8) (hT : T.val = t.val % 8 * 512 + r.val) :
    k0_pay2 (k0_pay4 (iblk m c 0 t) (iblk m c 3 t) (iblk m c 2 t) (iblk m c 1 t)) (iblk m c 6 t) (iblk m c 8 t) (ix3 0 n r) = gateRowsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b n T) :=
  (gateT_block _ _ _ r n).trans (congrArg₂ (· + ·) (Finset.sum_congr rfl fun k _ => (mul_comm _ _).trans (congrArg₂ (· * ·) (row m c t r k b T hb hT) (gateRows_at' m c t k n))) (biasT_at m c t n r))

/-- Where an entry of an output block stands in its array. -/
theorem place9 (t : Fin cfg0.N) (u : Fin 1) (r : Fin 512) (n : Fin 5632) (b : Fin 16) (T : Fin 4096) (hb : b.val = t.val / 8) (hT : T.val = t.val % 8 * 512 + r.val) :
    (win0_9.blk t).view.emb (ix3 u r n) = ix3 b T n := by
  blk_ext [idx t]

theorem place10 (t : Fin cfg0.N) (u : Fin 1) (r : Fin 512) (n : Fin 128) (b : Fin 16) (T : Fin 4096) (hb : b.val = t.val / 8) (hT : T.val = t.val % 8 * 512 + r.val) :
    (win0_10.blk t).view.emb (ix3 u r n) = ix3 b T n := by
  blk_ext [idx t]

theorem place11 (t : Fin cfg0.N) (u : Fin 1) (n : Fin 8) (r : Fin 512) (b : Fin 16) (T : Fin 4096) (hb : b.val = t.val / 8) (hT : T.val = t.val % 8 * 512 + r.val) :
    (win0_11.blk t).view.emb (ix3 u n r) = ix3 b n T := by
  blk_ext [idx t]

theorem points (t : Fin cfg0.N) : t.val < 128 := t.isLt

/-- The first result array: the projection, its columns reordered. -/
theorem final9 (c : Dev nD) : (dats m 0 c).arrAt 9 cfg0.N = mainArr (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9, out9]
  have ht := points t
  idx_vars y
  obtain rfl : y0 = 0 := Subsingleton.elim _ _
  exact (tile9 m c t y1 y2 ⟨t.val / 8, by omega⟩ ⟨t.val % 8 * 512 + y1.val, by omega⟩ rfl rfl).trans
    (congrArg (mainArr (m ((c : Thread nD τ).loc main_arg0)) (m ((c : Thread nD τ).loc main_arg1)) (m ((c : Thread nD τ).loc main_arg2)) (m ((c : Thread nD τ).loc main_arg3))) (place9 t 0 y1 y2 ⟨t.val / 8, by omega⟩ ⟨t.val % 8 * 512 + y1.val, by omega⟩ rfl rfl).symm)

/-- The second result array: the gates along 128 lanes. -/
theorem final10 (c : Dev nD) : (dats m 0 c).arrAt 10 cfg0.N = gateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10, out10]
  have ht := points t
  idx_vars y
  obtain rfl : y0 = 0 := Subsingleton.elim _ _
  exact (tile10 m c t y1 y2 ⟨t.val / 8, by omega⟩ ⟨t.val % 8 * 512 + y1.val, by omega⟩ rfl rfl).trans
    (congrArg (gateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (place10 t 0 y1 y2 ⟨t.val / 8, by omega⟩ ⟨t.val % 8 * 512 + y1.val, by omega⟩ rfl rfl).symm)

/-- The third result array: the gates transposed. -/
theorem final11 (c : Dev nD) : (dats m 0 c).arrAt 11 cfg0.N = gateRowsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11, out11]
  have ht := points t
  idx_vars y
  obtain rfl : y0 = 0 := Subsingleton.elim _ _
  exact (tile11 m c t y2 y1 ⟨t.val / 8, by omega⟩ ⟨t.val % 8 * 512 + y2.val, by omega⟩ rfl rfl).trans
    (congrArg (gateRowsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (place11 t 0 y1 y2 ⟨t.val / 8, by omega⟩ ⟨t.val % 8 * 512 + y2.val, by omega⟩ rfl rfl).symm)

end Cert.Kernel2Ideal.Inproj
end
-- ==== Proof.Inproj.Ref.lean ====
/- The in-projection's reference: its three results, index by index. -/
module

public import proofs.«01_k».proof.Proof.Inproj.Spec
public import proofs.«01_k».proof.Proof.Gen.Reference2Ideal.Run
public import Idealize.ShloMosaic.Lib.KernelVsHost
public import Idealize.ShloMosaic.Lib.Pointwise

@[expose] public section

set_option maxRecDepth 16384

noncomputable section

open Idealize.ShloMosaic Idealize.ShloMosaic.TcCoe Idealize.SL.Sem

namespace Cert.Reference2Ideal.Inproj

open Cert.Reference2Ideal Cert.Reference2Ideal.Gen InprojSpec

/-- The reference's normed and modulated rows. -/
def rows (x : FVec Ideal S16x4096x1024 .f32) (md : FVec Ideal S16x6144 .f32) (g : FVec Ideal S1024 .f32) : FVec Ideal S16x4096x1024 .f32 :=
  addf (mulf (mulf (mulf x (broadcastInDim S16x4096x1024 ![0, 1, 2] bcast_S16x4096x1_S16x4096x1024_0_1_2 (Host.rsqrt (addf (Host.divf (broadcastInDim S16x4096x1 ![0, 1] bcast_S16x4096_S16x4096x1_0_1
      (Host.reduceAdd (mulf x x) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g)))
    (broadcastInDim S16x4096x1024 ![0, 1, 2] bcast_S16x1x1024_S16x4096x1024_0_1_2 (addf (broadcastInDim S16x1x1024 ![] bcast_S_S16x1x1024 (constant S_ .f32 0x3F800000#32))
      (broadcastInDim S16x1x1024 ![0, 2] bcast_S16x1024_S16x1x1024_0_2 (extractStridedSlice S16x1024 ![0, 1024] md slices_S16x6144_S16x1024_0_1024)))))
    (broadcastInDim S16x4096x1024 ![0, 1, 2] bcast_S16x1x1024_S16x4096x1024_0_1_2 (broadcastInDim S16x1x1024 ![0, 2] bcast_S16x1024_S16x1x1024_0_2 (extractStridedSlice S16x1024 ![0, 0] md slices_S16x6144_S16x1024_0_0)))

/-- The reference's projection of those rows. -/
def product (h : FVec Ideal S16x4096x1024 .f32) (w : FVec Ideal S1024x5640 .f32) : FVec Ideal S16x4096x5640 .f32 :=
  Host.dotGeneral dot_S16x4096x1024_S1024x5640_S16x4096x5640_2_0_01_1_n_n none h w

/-- The projection's columns in the order of the first result. -/
def mainOf (P : FVec Ideal S16x4096x5640 .f32) : FVec Ideal S16x4096x5632 .bf16 :=
  truncf .bf16 (concatenate S16x4096x5632 2 [⟨S16x4096x1024, extractStridedSlice S16x4096x1024 ![0, 0, 3592] P slices_S16x4096x5640_S16x4096x1024_0_0_3592⟩,
    ⟨S16x4096x1024, extractStridedSlice S16x4096x1024 ![0, 0, 4616] P slices_S16x4096x5640_S16x4096x1024_0_0_4616⟩,
    ⟨S16x4096x512, extractStridedSlice S16x4096x512 ![0, 0, 0] P slices_S16x4096x5640_S16x4096x512_0_0_0⟩,
    ⟨S16x4096x512, extractStridedSlice S16x4096x512 ![0, 0, 512] P slices_S16x4096x5640_S16x4096x512_0_0_512⟩,
    ⟨S16x4096x512, extractStridedSlice S16x4096x512 ![0, 0, 1024] P slices_S16x4096x5640_S16x4096x512_0_0_1024⟩,
    ⟨S16x4096x1024, extractStridedSlice S16x4096x1024 ![0, 0, 1536] P slices_S16x4096x5640_S16x4096x1024_0_0_1536⟩,
    ⟨S16x4096x512, extractStridedSlice S16x4096x512 ![0, 0, 2560] P slices_S16x4096x5640_S16x4096x512_0_0_2560⟩,
    ⟨S16x4096x512, extractStridedSlice S16x4096x512 ![0, 0, 3072] P slices_S16x4096x5640_S16x4096x512_0_0_3072⟩]
    concatenates_S16x4096x1024_S16x4096x1024_S16x4096x512_S16x4096x512_S16x4096x512_S16x4096x1024_S16x4096x512_S16x4096x512_S16x4096x5632_d2) bitsLt_bf16_f32

/-- The eight gates. -/
def gates (P : FVec Ideal S16x4096x5640 .f32) (bi bf : FVec Ideal S4 .f32) : FVec Ideal S16x4096x8 .f32 :=
  concatenate S16x4096x8 2 [⟨S16x4096x4, addf (extractStridedSlice S16x4096x4 ![0, 0, 3584] P slices_S16x4096x5640_S16x4096x4_0_0_3584) (broadcastInDim S16x4096x4 ![0, 1, 2] bcast_S1x1x4_S16x4096x4_0_1_2 (broadcastInDim S1x1x4 ![2] bcast_S4_S1x1x4_2 bi))⟩,
    ⟨S16x4096x4, addf (extractStridedSlice S16x4096x4 ![0, 0, 3588] P slices_S16x4096x5640_S16x4096x4_0_0_3588) (broadcastInDim S16x4096x4 ![0, 1, 2] bcast_S1x1x4_S16x4096x4_0_1_2 (broadcastInDim S1x1x4 ![2] bcast_S4_S1x1x4_2 bf))⟩]
    concatenates_S16x4096x4_S16x4096x4_S16x4096x8_d2

theorem main_eq (m : (ℓ : Loc nD τ sig) → Buf (Elt Ideal) ℓ) (c : Dev nD) : Value.res_main_v46 m c = mainOf (product (rows (m ((c.tc : Thread nD τ).loc main_arg0)) (m ((c.tc : Thread nD τ).loc main_arg1)) (m ((c.tc : Thread nD τ).loc main_arg2))) (m ((c.tc : Thread nD τ).loc main_arg3))) := by
  unfold Value.res_main_v46 mainOf product rows
  rfl

theorem main_at (P : FVec Ideal S16x4096x5640 .f32) (b : Fin 16) (T : Fin 4096) (n : Fin 5632) : mainOf P (ix3 b T n) = P (ix3 b T (col n)) := by
  have hn := n.isLt
  pointwise [mainOf]
  exact col_ladder (fun j => P (ix3 b T j)) n

theorem gates_at (P : FVec Ideal S16x4096x5640 .f32) (bi bf : FVec Ideal S4 .f32) (b : Fin 16) (T : Fin 4096) (n : Fin 8) :
    gates P bi bf (ix3 b T n) = P (ix3 b T ⟨3584 + n.val, by omega⟩) + gateBias bi bf n := by
  have hn := n.isLt
  pointwise [gates]
  unfold gateBias
  split_ifs <;> first | rfl | (refine congrArg (· + _) (congrArg (fun j => P (ix3 b T j)) (Fin.ext ?_)); dsimp only; omega)

theorem pad_at (G : FVec Ideal S16x4096x8 .f32) (b : Fin 16) (T : Fin 4096) (n : Fin 128) :
    pad S16x4096x128 ![0, 0, 0] ![0, 0, 120] ![0, 0, 0] G (sitofp .f32 (constantI S_ 32 0#32)) pads_S16x4096x8_S16x4096x128_000_000_01200 h_S_ (ix3 b T n) = if h : n.val < 8 then G (ix3 b T ⟨n.val, h⟩) else (0 : EReal) := by
  pointwise
  rw [show (FloatOps.sitofp FTy.f32 (0#32) : Ideal .f32) = (0 : EReal) from sitofp_zero]

theorem transpose_at (G : FVec Ideal S16x4096x8 .f32) (b : Fin 16) (T : Fin 4096) (n : Fin 8) :
    transpose S16x8x4096 [0, 2, 1] G transposes_S16x4096x8_S16x8x4096_0_2_1 (ix3 b n T) = G (ix3 b T n) := by
  pointwise

theorem product_at (h : FVec Ideal S16x4096x1024 .f32) (w : FVec Ideal S1024x5640 .f32) (b : Fin 16) (T : Fin 4096) (n : Fin 5640) :
    product h w (ix3 b T n) = ∑ k : Fin 1024, h (ix3 b T k) * w (ix2 k n) := by
  pointwise [product]

theorem rows_at (x : FVec Ideal S16x4096x1024 .f32) (md : FVec Ideal S16x6144 .f32) (g : FVec Ideal S1024 .f32) (b : Fin 16) (T : Fin 4096) (d : Fin 1024) :
    rows x md g (ix3 b T d) = rowAt x md g b T d := by
  pointwise [rows, rowAt, normed]

theorem product_rows_at (x : FVec Ideal S16x4096x1024 .f32) (md : FVec Ideal S16x6144 .f32) (g : FVec Ideal S1024 .f32) (w : FVec Ideal S1024x5640 .f32)
    (b : Fin 16) (T : Fin 4096) (n : Fin 5640) : product (rows x md g) w (ix3 b T n) = projAt x md g w b T n :=
  (product_at _ _ b T n).trans (Finset.sum_congr rfl fun k _ => congrArg (· * _) (rows_at x md g b T k))

/-- The first result is the projection, its columns reordered. -/
theorem main_spec (x : FVec Ideal S16x4096x1024 .f32) (md : FVec Ideal S16x6144 .f32) (g : FVec Ideal S1024 .f32) (w : FVec Ideal S1024x5640 .f32) :
    mainOf (product (rows x md g) w) = mainArr x md g w := by
  funext i
  idx_vars i
  exact (main_at _ _ _ _).trans (product_rows_at ..)

/-- The gates at an index. -/
theorem gates_spec (x : FVec Ideal S16x4096x1024 .f32) (md : FVec Ideal S16x6144 .f32) (g : FVec Ideal S1024 .f32) (w : FVec Ideal S1024x5640 .f32) (bi bf : FVec Ideal S4 .f32)
    (b : Fin 16) (T : Fin 4096) (n : Fin 8) : gates (product (rows x md g) w) bi bf (ix3 b T n) = gateAt x md g w bi bf b T n :=
  (gates_at _ bi bf b T n).trans (congrArg (· + _) (product_rows_at ..))

/-- The second result is the gates along 128 lanes. -/
theorem lanes_spec (x : FVec Ideal S16x4096x1024 .f32) (md : FVec Ideal S16x6144 .f32) (g : FVec Ideal S1024 .f32) (w : FVec Ideal S1024x5640 .f32) (bi bf : FVec Ideal S4 .f32) :
    pad S16x4096x128 ![0, 0, 0] ![0, 0, 120] ![0, 0, 0] (gates (product (rows x md g) w) bi bf) (sitofp .f32 (constantI S_ 32 0#32)) pads_S16x4096x8_S16x4096x128_000_000_01200 h_S_
      = gateArr x md g w bi bf := by
  funext i
  idx_vars i
  refine (pad_at _ _ _ _).trans ?_
  exact dite_congr rfl (fun h => gates_spec ..) (fun _ => rfl)

/-- The third result is the gates transposed. -/
theorem transposed_spec (x : FVec Ideal S16x4096x1024 .f32) (md : FVec Ideal S16x6144 .f32) (g : FVec Ideal S1024 .f32) (w : FVec Ideal S1024x5640 .f32) (bi bf : FVec Ideal S4 .f32) :
    transpose S16x8x4096 [0, 2, 1] (gates (product (rows x md g) w) bi bf) transposes_S16x4096x8_S16x8x4096_0_2_1 = gateRowsArr x md g w bi bf := by
  funext i
  idx_vars i
  exact (transpose_at _ _ _ _).trans (gates_spec ..)

/-- The reference's run with its results named. -/
theorem run (m : (ℓ : Loc nD τ sig) → Buf (Elt Ideal) ℓ) (ρ : Dev nD → PrngReg) :
    θ_run defs (onTc (τ := τ) (Cert.Reference2Ideal.main (F := Ideal))) ⟨m, fun _ => 0, ρ⟩ fun r => ∀ c : Dev nD,
      r.2.mem ((c.tc : Thread nD τ).loc main_v46) = mainArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v47) = gateArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v48) = gateRowsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((main_eq m c).trans (main_spec ..)), (h c).2.1.trans (lanes_spec ..), (h c).2.2.1.trans (transposed_spec ..), (h c).2.2.2⟩)
    (Cert.Reference2Ideal.Value.run m ρ)

end Cert.Reference2Ideal.Inproj
end
-- ==== Proof.Merge.Spec.lean ====
/- What the merge computes, over free arrays: the two branches gated and projected, the residual, and the second norm. -/
module

public import proofs.«01_k».proof.Proof.Inproj.Spec

@[expose] public section

noncomputable section

open Idealize.ShloMosaic

namespace MergeSpec

/-- Two values, each times the logistic function of its gate, added. -/
def gated (ga gb a b : EReal) : EReal := Ideal.div 1 (1 + Ideal.exp (-ga)) * a + Ideal.div 1 (1 + Ideal.exp (-gb)) * b

/-- Entry `d` of row `T` of example `b`: the two branches through their output weights, gated by the projection's first and
    second 1024 columns. -/
def mergedAt (ya yb : FVec Ideal ⟨3, ![16, 4096, 512]⟩ .bf16) (pr : FVec Ideal ⟨3, ![16, 4096, 5632]⟩ .bf16) (wa wb : FVec Ideal ⟨2, ![512, 1024]⟩ .f32)
    (b : Fin 16) (T : Fin 4096) (d : Fin 1024) : EReal :=
  gated (pr (ix3 b T ⟨d.val, by omega⟩)) (pr (ix3 b T ⟨1024 + d.val, by omega⟩)) (∑ j : Fin 512, ya (ix3 b T j) * wa (ix2 j d)) (∑ j : Fin 512, yb (ix3 b T j) * wb (ix2 j d))

/-- The residual stream after the merge: the merged row through the output weights, scaled by the third 1024 columns of the
    modulation. -/
def resAt (ya yb : FVec Ideal ⟨3, ![16, 4096, 512]⟩ .bf16) (pr : FVec Ideal ⟨3, ![16, 4096, 5632]⟩ .bf16) (x : FVec Ideal ⟨3, ![16, 4096, 1024]⟩ .f32)
    (md : FVec Ideal ⟨2, ![16, 6144]⟩ .f32) (wa wb : FVec Ideal ⟨2, ![512, 1024]⟩ .f32) (wo : FVec Ideal ⟨2, ![1024, 1024]⟩ .f32)
    (b : Fin 16) (T : Fin 4096) (d : Fin 1024) : EReal :=
  x (ix3 b T d) + md (ix2 b ⟨2048 + d.val, by omega⟩) * ∑ k : Fin 1024, mergedAt ya yb pr wa wb b T k * wo (ix2 k d)

/-- The first result: the residual stream. -/
def resArr (ya yb : FVec Ideal ⟨3, ![16, 4096, 512]⟩ .bf16) (pr : FVec Ideal ⟨3, ![16, 4096, 5632]⟩ .bf16) (x : FVec Ideal ⟨3, ![16, 4096, 1024]⟩ .f32)
    (md : FVec Ideal ⟨2, ![16, 6144]⟩ .f32) (wa wb : FVec Ideal ⟨2, ![512, 1024]⟩ .f32) (wo : FVec Ideal ⟨2, ![1024, 1024]⟩ .f32) :
    FVec Ideal ⟨3, ![16, 4096, 1024]⟩ .f32 := fun i => resAt ya yb pr x md wa wb wo (i 0) (i 1) (i 2)

/-- The second result: the residual stream's rows normed and modulated, the shift in the modulation's fourth 1024 columns and
    the scale in its fifth. -/
def normArr (ya yb : FVec Ideal ⟨3, ![16, 4096, 512]⟩ .bf16) (pr : FVec Ideal ⟨3, ![16, 4096, 5632]⟩ .bf16) (x : FVec Ideal ⟨3, ![16, 4096, 1024]⟩ .f32)
    (md : FVec Ideal ⟨2, ![16, 6144]⟩ .f32) (wa wb : FVec Ideal ⟨2, ![512, 1024]⟩ .f32) (wo : FVec Ideal ⟨2, ![1024, 1024]⟩ .f32) (g : FVec Ideal ⟨1, ![1024]⟩ .f32) :
    FVec Ideal ⟨3, ![16, 4096, 1024]⟩ .bf16 :=
  fun i => InprojSpec.normed (fun k => resAt ya yb pr x md wa wb wo (i 0) (i 1) k) (fun k => g (ix1 k)) (fun k => md (ix2 (i 0) ⟨4096 + k.val, by omega⟩))
    (fun k => md (ix2 (i 0) ⟨3072 + k.val, by omega⟩)) (i 2)

end MergeSpec
end
-- ==== Proof.Merge.Pay.lean ====
/- What one grid point of the merge stores, from the blocks it reads. -/
module

public import proofs.«01_k».proof.Proof.Merge.Spec
public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen MergeSpec InprojSpec

/-- The two branches of a block, gated. -/
theorem merged_block (ya : Vec Ideal S1x512x512 .bf16) (wa : Vec Ideal S512x1024 .bf16) (yb : Vec Ideal S1x512x512 .bf16) (wb : Vec Ideal S512x1024 .bf16) (ga gb : Vec Ideal S1x512x1024 .bf16)
    (r : Fin 512) (d : Fin 1024) : k0_pay2 ya wa yb wb ga gb (ix2 r d)
      = gated (ga (ix3 0 r d)) (gb (ix3 0 r d)) (∑ j : Fin 512, ya (ix3 0 r j) * wa (ix2 j d)) (∑ j : Fin 512, yb (ix3 0 r j) * wb (ix2 j d)) := by
  pointwise [k0_pay2, gated, zero_sub]

/-- The residual rows of a block. -/
theorem res_rows (v : FVec Ideal S512x1024 .f32) (x : Vec Ideal S1x512x1024 .f32) (gt : Vec Ideal S1x1x1024 .f32) (wo : Vec Ideal S1024x1024 .bf16) (r : Fin 512) (d : Fin 1024) :
    k0_pay3 v x gt wo (ix2 r d) = x (ix3 0 r d) + gt (ix3 0 0 d) * ∑ k : Fin 1024, v (ix2 r k) * wo (ix2 k d) := by
  pointwise [k0_pay3]

theorem res_block (v : FVec Ideal S512x1024 .f32) (x : Vec Ideal S1x512x1024 .f32) (gt : Vec Ideal S1x1x1024 .f32) (wo : Vec Ideal S1024x1024 .bf16) (r : Fin 512) (d : Fin 1024) :
    k0_pay4 v x gt wo (ix3 0 r d) = k0_pay3 v x gt wo (ix2 r d) := by
  pointwise [k0_pay4]

/-- The residual rows of a block, normed and modulated. -/
theorem norm_block (v : FVec Ideal S512x1024 .f32) (x : Vec Ideal S1x512x1024 .f32) (gt : Vec Ideal S1x1x1024 .f32) (wo : Vec Ideal S1024x1024 .bf16) (g : Vec Ideal S1x1024 .f32) (sc sh : Vec Ideal S1x1x1024 .f32) (r : Fin 512) (d : Fin 1024) :
    k0_pay1 (k0_pay5 v x gt wo g sc) (k0_pay6 sh) (ix3 0 r d)
      = normed (fun k => k0_pay3 v x gt wo (ix2 r k)) (fun k => g (ix2 0 k)) (fun k => sc (ix3 0 0 k)) (fun k => sh (ix3 0 0 k)) d := by
  pointwise [k0_pay1, k0_pay5, k0_pay6, normed]

variable (m : (ℓ : Loc nD τ sig) → Buf (Elt Ideal) ℓ)

theorem out12 (c : Dev nD) (t : Fin cfg0.N) : (outsAt0 m c t).1 = k0_pay4 (k0_pay2 (iblk m c 0 t) (iblk m c 6 t) (iblk m c 1 t) (iblk m c 7 t) (X0_2 m c t) (X0_3 m c t)) (iblk m c 4 t) (iblk m c 5 t) (iblk m c 8 t) := by
  unfold outsAt0
  frame_out

theorem out13 (c : Dev nD) (t : Fin cfg0.N) :
    (outsAt0 m c t).2 = k0_pay1 (k0_pay5 (k0_pay2 (iblk m c 0 t) (iblk m c 6 t) (iblk m c 1 t) (iblk m c 7 t) (X0_2 m c t) (X0_3 m c t)) (iblk m c 4 t) (iblk m c 5 t) (iblk m c 8 t) (iblk m c 9 t) (iblk m c 11 t)) (k0_pay6 (iblk m c 10 t)) := by
  unfold outsAt0
  frame_out

end Cert.Kernel3Ideal.Merge
end
-- ==== Proof.Merge.Host.lean ====
/- The merge's operands that the host prepares, index by index. -/
module

public import proofs.«01_k».proof.Proof.Merge.Spec
public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen MergeSpec InprojSpec

variable (m : (ℓ : Loc nD τ sig) → Buf (Elt Ideal) ℓ)

/-- The residual gate's row. -/
theorem gate_entry (c : Dev nD) (b : Fin 16) (d : Fin 1024) : V m c main_v8 (ix3 b 0 d) = m ((c : Thread nD τ).loc main_arg4) (ix2 b ⟨2048 + d.val, by omega⟩) := by
  entry_read
  pointwise

/-- The shift's row. -/
theorem shift_entry (c : Dev nD) (b : Fin 16) (d : Fin 1024) : V m c main_v9 (ix3 b 0 d) = m ((c : Thread nD τ).loc main_arg4) (ix2 b ⟨3072 + d.val, by omega⟩) := by
  entry_read
  pointwise

/-- The scale's row. -/
theorem scale_entry (c : Dev nD) (b : Fin 16) (d : Fin 1024) : V m c main_v10 (ix3 b 0 d) = m ((c : Thread nD τ).loc main_arg4) (ix2 b ⟨4096 + d.val, by omega⟩) := by
  entry_read
  pointwise

/-- The first branch's output weights. -/
theorem wa_entry (c : Dev nD) (k : Fin 512) (d : Fin 1024) : V m c main_v12 (ix2 k d) = m ((c : Thread nD τ).loc main_arg5) (ix2 k d) := by
  entry_read
  pointwise

/-- The second branch's output weights. -/
theorem wb_entry (c : Dev nD) (k : Fin 512) (d : Fin 1024) : V m c main_v13 (ix2 k d) = m ((c : Thread nD τ).loc main_arg6) (ix2 k d) := by
  entry_read
  pointwise

/-- The output weights. -/
theorem wo_entry (c : Dev nD) (k d : Fin 1024) : V m c main_v14 (ix2 k d) = m ((c : Thread nD τ).loc main_arg7) (ix2 k d) := by
  entry_read
  pointwise

/-- The norm's gain. -/
theorem gain_entry (c : Dev nD) (d : Fin 1024) : V m c main_v15 (ix2 0 d) = m ((c : Thread nD τ).loc main_arg8) (ix1 d) := by
  entry_read
  pointwise

end Cert.Kernel3Ideal.Merge
end
-- ==== Proof.Merge.Blocks.lean ====
/- The merge's blocks at a grid point, as entries of the arrays they are cut from. -/
module

public import proofs.«01_k».proof.Proof.Merge.Host

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen MergeSpec InprojSpec

/-- Where the windows stand at a grid point: examples by the first coordinate, blocks of 512 rows by the second. -/
theorem idx : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, t.val % 8, 1] ∧ win0_4.index t = ![t.val / 8, t.val % 8, 0] ∧ win0_5.index t = ![t.val / 8, 0, 0] ∧ win0_6.index t = ![0, 0]
    ∧ win0_7.index t = ![0, 0] ∧ win0_8.index t = ![0, 0] ∧ win0_9.index t = ![0, 0] ∧ win0_10.index t = ![t.val / 8, 0, 0] ∧ win0_11.index t = ![t.val / 8, 0, 0]
    ∧ win0_12.index t = ![t.val / 8, t.val % 8, 0] ∧ win0_13.index t = ![t.val / 8, t.val % 8, 0] :=
  (by decide +kernel : ∀ t : Fin grid0.N, _)

theorem ya_block (A : Vec Ideal S16x4096x512 .bf16) (t : Fin cfg0.N) (r : Fin 512) (k : Fin 512) (b : Fin 16) (T : Fin 4096) (hb : b.val = t.val / 8) (hT : T.val = t.val % 8 * 512 + r.val) :
    ((cfg0.win 0).blk t).view.read (Elt Ideal) A (ix3 0 r k) = A (ix3 b T k) := by
  blk_ext [idx t]

theorem yb_block (A : Vec Ideal S16x4096x512 .bf16) (t : Fin cfg0.N) (r : Fin 512) (k : Fin 512) (b : Fin 16) (T : Fin 4096) (hb : b.val = t.val / 8) (hT : T.val = t.val % 8 * 512 + r.val) :
    ((cfg0.win 1).blk t).view.read (Elt Ideal) A (ix3 0 r k) = A (ix3 b T k) := by
  blk_ext [idx t]

theorem x_block (A : Vec Ideal S16x4096x1024 .f32) (t : Fin cfg0.N) (r : Fin 512) (k : Fin 1024) (b : Fin 16) (T : Fin 4096) (hb : b.val = t.val / 8) (hT : T.val = t.val % 8 * 512 + r.val) :
    ((cfg0.win 4).blk t).view.read (Elt Ideal) A (ix3 0 r k) = A (ix3 b T k) := by
  blk_ext [idx t]

theorem gate_block (A : Vec Ideal S16x1x1024 .f32) (t : Fin cfg0.N) (k : Fin 1024) (b : Fin 16) (hb : b.val = t.val / 8) :
    ((cfg0.win 5).blk t).view.read (Elt Ideal) A (ix3 0 0 k) = A (ix3 b 0 k) := by
  blk_ext [idx t]

theorem wa_block (A : Vec Ideal S512x1024 .bf16) (t : Fin cfg0.N) (k : Fin 512) (n : Fin 1024) :
    ((cfg0.win 6).blk t).view.read (Elt Ideal) A (ix2 k n) = A (ix2 k n) := by
  blk_ext [idx t]

theorem wb_block (A : Vec Ideal S512x1024 .bf16) (t : Fin cfg0.N) (k : Fin 512) (n : Fin 1024) :
    ((cfg0.win 7).blk t).view.read (Elt Ideal) A (ix2 k n) = A (ix2 k n) := by
  blk_ext [idx t]

theorem wo_block (A : Vec Ideal S1024x1024 .bf16) (t : Fin cfg0.N) (k n : Fin 1024) :
    ((cfg0.win 8).blk t).view.read (Elt Ideal) A (ix2 k n) = A (ix2 k n) := by
  blk_ext [idx t]

theorem gain_block (A : Vec Ideal S1x1024 .f32) (t : Fin cfg0.N) (k : Fin 1024) :
    ((cfg0.win 9).blk t).view.read (Elt Ideal) A (ix2 0 k) = A (ix2 0 k) := by
  blk_ext [idx t]

theorem shift_block (A : Vec Ideal S16x1x1024 .f32) (t : Fin cfg0.N) (k : Fin 1024) (b : Fin 16) (hb : b.val = t.val / 8) :
    ((cfg0.win 10).blk t).view.read (Elt Ideal) A (ix3 0 0 k) = A (ix3 b 0 k) := by
  blk_ext [idx t]

theorem scale_block (A : Vec Ideal S16x1x1024 .f32) (t : Fin cfg0.N) (k : Fin 1024) (b : Fin 16) (hb : b.val = t.val / 8) :
    ((cfg0.win 11).blk t).view.read (Elt Ideal) A (ix3 0 0 k) = A (ix3 b 0 k) := by
  blk_ext [idx t]

variable (m : (ℓ : Loc nD τ sig) → Buf (Elt Ideal) ℓ)

theorem ya_at (c : Dev nD) (t : Fin cfg0.N) (r : Fin 512) (k : Fin 512) (b : Fin 16) (T : Fin 4096) (hb : b.val = t.val / 8) (hT : T.val = t.val % 8 * 512 + r.val) :
    iblk m c 0 t (ix3 0 r k) = m ((c : Thread nD τ).loc main_arg0) (ix3 b T k) := by
  rw [← V_main_arg0 m c]
  exact ya_block (V m c main_arg0) t r k b T hb hT

theorem yb_at (c : Dev nD) (t : Fin cfg0.N) (r : Fin 512) (k : Fin 512) (b : Fin 16) (T : Fin 4096) (hb : b.val = t.val / 8) (hT : T.val = t.val % 8 * 512 + r.val) :
    iblk m c 1 t (ix3 0 r k) = m ((c : Thread nD τ).loc main_arg1) (ix3 b T k) := by
  rw [← V_main_arg1 m c]
  exact yb_block (V m c main_arg1) t r k b T hb hT

theorem x_at (c : Dev nD) (t : Fin cfg0.N) (r : Fin 512) (k : Fin 1024) (b : Fin 16) (T : Fin 4096) (hb : b.val = t.val / 8) (hT : T.val = t.val % 8 * 512 + r.val) :
    iblk m c 4 t (ix3 0 r k) = m ((c : Thread nD τ).loc main_arg3) (ix3 b T k) := by
  rw [← V_main_arg3 m c]
  exact x_block (V m c main_arg3) t r k b T hb hT

theorem ga_at (c : Dev nD) (t : Fin cfg0.N) (r : Fin 512) (k : Fin 1024) (b : Fin 16) (T : Fin 4096) (hb : b.val = t.val / 8) (hT : T.val = t.val % 8 * 512 + r.val) :
    X0_2 m c t (ix3 0 r k) = m ((c : Thread nD τ).loc main_arg2) (ix3 b T ⟨k.val, by omega⟩) := by
  rw [← V_main_arg2 m c]
  unfold X0_2 Pipeline.Window.fill
  rw [dif_pos (moved0_2 t _)]
  unfold iblk
  blk_ext [idx t]

theorem gb_at (c : Dev nD) (t : Fin cfg0.N) (r : Fin 512) (k : Fin 1024) (b : Fin 16) (T : Fin 4096) (hb : b.val = t.val / 8) (hT : T.val = t.val % 8 * 512 + r.val) :
    X0_3 m c t (ix3 0 r k) = m ((c : Thread nD τ).loc main_arg2) (ix3 b T ⟨1024 + k.val, by omega⟩) := by
  rw [← V_main_arg2 m c]
  unfold X0_3 Pipeline.Window.fill
  rw [dif_pos (moved0_3 t _)]
  unfold iblk
  blk_ext [idx t]

theorem gate_at (c : Dev nD) (t : Fin cfg0.N) (k : Fin 1024) (b : Fin 16) (hb : b.val = t.val / 8) : iblk m c 5 t (ix3 0 0 k) = m ((c : Thread nD τ).loc main_arg4) (ix2 b ⟨2048 + k.val, by omega⟩) :=
  (gate_block (V m c main_v8) t k b hb).trans (gate_entry m c b k)

theorem shift_at (c : Dev nD) (t : Fin cfg0.N) (k : Fin 1024) (b : Fin 16) (hb : b.val = t.val / 8) : iblk m c 10 t (ix3 0 0 k) = m ((c : Thread nD τ).loc main_arg4) (ix2 b ⟨3072 + k.val, by omega⟩) :=
  (shift_block (V m c main_v9) t k b hb).trans (shift_entry m c b k)

theorem scale_at (c : Dev nD) (t : Fin cfg0.N) (k : Fin 1024) (b : Fin 16) (hb : b.val = t.val / 8) : iblk m c 11 t (ix3 0 0 k) = m ((c : Thread nD τ).loc main_arg4) (ix2 b ⟨4096 + k.val, by omega⟩) :=
  (scale_block (V m c main_v10) t k b hb).trans (scale_entry m c b k)

theorem wa_at (c : Dev nD) (t : Fin cfg0.N) (k : Fin 512) (n : Fin 1024) : iblk m c 6 t (ix2 k n) = m ((c : Thread nD τ).loc main_arg5) (ix2 k n) :=
  (wa_block (V m c main_v12) t k n).trans (wa_entry m c k n)

theorem wb_at (c : Dev nD) (t : Fin cfg0.N) (k : Fin 512) (n : Fin 1024) : iblk m c 7 t (ix2 k n) = m ((c : Thread nD τ).loc main_arg6) (ix2 k n) :=
  (wb_block (V m c main_v13) t k n).trans (wb_entry m c k n)

theorem wo_at (c : Dev nD) (t : Fin cfg0.N) (k n : Fin 1024) : iblk m c 8 t (ix2 k n) = m ((c : Thread nD τ).loc main_arg7) (ix2 k n) :=
  (wo_block (V m c main_v14) t k n).trans (wo_entry m c k n)

theorem gain_at (c : Dev nD) (t : Fin cfg0.N) (k : Fin 1024) : iblk m c 9 t (ix2 0 k) = m ((c : Thread nD τ).loc main_arg8) (ix1 k) :=
  (gain_block (V m c main_v15) t k).trans (gain_entry m c k)

end Cert.Kernel3Ideal.Merge
end
-- ==== Proof.Merge.Final.lean ====
/- The merge call's two result arrays are the residual stream and its rows normed and modulated, index by index. -/
module

public import proofs.«01_k».proof.Proof.Merge.Pay
public import proofs.«01_k».proof.Proof.Merge.Blocks

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen MergeSpec InprojSpec

variable (m : (ℓ : Loc nD τ sig) → Buf (Elt Ideal) ℓ)

/-- A merged row of a grid point's block is the row it stands for. -/
theorem merged_row (c : Dev nD) (t : Fin cfg0.N) (r : Fin 512) (d : Fin 1024) (b : Fin 16) (T : Fin 4096) (hb : b.val = t.val / 8) (hT : T.val = t.val % 8 * 512 + r.val) :
    k0_pay2 (iblk m c 0 t) (iblk m c 6 t) (iblk m c 1 t) (iblk m c 7 t) (X0_2 m c t) (X0_3 m c t) (ix2 r d) = mergedAt (m ((c : Thread nD τ).loc main_arg0)) (m ((c : Thread nD τ).loc main_arg1)) (m ((c : Thread nD τ).loc main_arg2)) (m ((c : Thread nD τ).loc main_arg5)) (m ((c : Thread nD τ).loc main_arg6)) b T d := by
  refine (merged_block _ _ _ _ _ _ r d).trans ?_
  unfold mergedAt
  rw [ga_at m c t r d b T hb hT, gb_at m c t r d b T hb hT]
  exact congrArg₂ (gated _ _) (Finset.sum_congr rfl fun j _ => congrArg₂ (· * ·) (ya_at m c t r j b T hb hT) (wa_at m c t j d))
    (Finset.sum_congr rfl fun j _ => congrArg₂ (· * ·) (yb_at m c t r j b T hb hT) (wb_at m c t j d))

/-- A residual row of a grid point's block is the row it stands for. -/
theorem res_row (c : Dev nD) (t : Fin cfg0.N) (r : Fin 512) (d : Fin 1024) (b : Fin 16) (T : Fin 4096) (hb : b.val = t.val / 8) (hT : T.val = t.val % 8 * 512 + r.val) :
    k0_pay3 (k0_pay2 (iblk m c 0 t) (iblk m c 6 t) (iblk m c 1 t) (iblk m c 7 t) (X0_2 m c t) (X0_3 m c t)) (iblk m c 4 t) (iblk m c 5 t) (iblk m c 8 t) (ix2 r d) = resAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b T d :=
  (res_rows _ _ _ _ r d).trans (congrArg₂ (· + ·) (x_at m c t r d b T hb hT) (congrArg₂ (· * ·) (gate_at m c t d b hb)
    (Finset.sum_congr rfl fun k _ => congrArg₂ (· * ·) (merged_row m c t r k b T hb hT) (wo_at m c t k d))))

theorem tile12 (c : Dev nD) (t : Fin cfg0.N) (r : Fin 512) (d : Fin 1024) (b : Fin 16) (T : Fin 4096) (hb : b.val = t.val / 8) (hT : T.val = t.val % 8 * 512 + r.val) :
    k0_pay4 (k0_pay2 (iblk m c 0 t) (iblk m c 6 t) (iblk m c 1 t) (iblk m c 7 t) (X0_2 m c t) (X0_3 m c t)) (iblk m c 4 t) (iblk m c 5 t) (iblk m c 8 t) (ix3 0 r d) = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b T d) :=
  (res_block _ _ _ _ r d).trans (res_row m c t r d b T hb hT)

theorem tile13 (c : Dev nD) (t : Fin cfg0.N) (r : Fin 512) (d : Fin 1024) (b : Fin 16) (T : Fin 4096) (hb : b.val = t.val / 8) (hT : T.val = t.val % 8 * 512 + r.val) :
    k0_pay1 (k0_pay5 (k0_pay2 (iblk m c 0 t) (iblk m c 6 t) (iblk m c 1 t) (iblk m c 7 t) (X0_2 m c t) (X0_3 m c t)) (iblk m c 4 t) (iblk m c 5 t) (iblk m c 8 t) (iblk m c 9 t) (iblk m c 11 t)) (k0_pay6 (iblk m c 10 t)) (ix3 0 r d)
      = normArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b T d) := by
  refine (norm_block _ _ _ _ _ _ _ r d).trans ?_
  rw [funext fun k => res_row m c t r k b T hb hT, funext fun k => gain_at m c t k, funext fun k => scale_at m c t k b hb, funext fun k => shift_at m c t k b hb]
  rfl

/-- Where an entry of an output block stands in its array. -/
theorem place12 (t : Fin cfg0.N) (u : Fin 1) (r : Fin 512) (d : Fin 1024) (b : Fin 16) (T : Fin 4096) (hb : b.val = t.val / 8) (hT : T.val = t.val % 8 * 512 + r.val) :
    (win0_12.blk t).view.emb (ix3 u r d) = ix3 b T d := by
  blk_ext [idx t]

theorem place13 (t : Fin cfg0.N) (u : Fin 1) (r : Fin 512) (d : Fin 1024) (b : Fin 16) (T : Fin 4096) (hb : b.val = t.val / 8) (hT : T.val = t.val % 8 * 512 + r.val) :
    (win0_13.blk t).view.emb (ix3 u r d) = ix3 b T d := by
  blk_ext [idx t]

theorem points (t : Fin cfg0.N) : t.val < 128 := t.isLt

/-- The first result array: the residual stream. -/
theorem final12 (c : Dev nD) : (dats m 0 c).arrAt 12 cfg0.N = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12, out12]
  have ht := points t
  idx_vars y
  obtain rfl : y0 = 0 := Subsingleton.elim _ _
  exact (tile12 m c t y1 y2 ⟨t.val / 8, by omega⟩ ⟨t.val % 8 * 512 + y1.val, by omega⟩ rfl rfl).trans
    (congrArg (resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (place12 t 0 y1 y2 ⟨t.val / 8, by omega⟩ ⟨t.val % 8 * 512 + y1.val, by omega⟩ rfl rfl).symm)

/-- The second result array: the residual stream normed and modulated. -/
theorem final13 (c : Dev nD) : (dats m 0 c).arrAt 13 cfg0.N = normArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13, out13]
  have ht := points t
  idx_vars y
  obtain rfl : y0 = 0 := Subsingleton.elim _ _
  exact (tile13 m c t y1 y2 ⟨t.val / 8, by omega⟩ ⟨t.val % 8 * 512 + y1.val, by omega⟩ rfl rfl).trans
    (congrArg (normArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (place13 t 0 y1 y2 ⟨t.val / 8, by omega⟩ ⟨t.val % 8 * 512 + y1.val, by omega⟩ rfl rfl).symm)

end Cert.Kernel3Ideal.Merge
end
-- ==== Proof.Merge.Ref.lean ====
/- The merge's reference: its two results, index by index. -/
module

public import proofs.«01_k».proof.Proof.Merge.Spec
public import proofs.«01_k».proof.Proof.Gen.Reference3Ideal.Run
public import Idealize.ShloMosaic.Lib.KernelVsHost
public import Idealize.ShloMosaic.Lib.Pointwise

@[expose] public section

set_option maxRecDepth 16384

noncomputable section

open Idealize.ShloMosaic Idealize.ShloMosaic.TcCoe Idealize.SL.Sem

namespace Cert.Reference3Ideal.Merge

open Cert.Reference3Ideal Cert.Reference3Ideal.Gen MergeSpec InprojSpec

/-- A branch through its output weights. -/
def branch (y : FVec Ideal S16x4096x512 .bf16) (w : FVec Ideal S512x1024 .f32) : FVec Ideal S16x4096x1024 .f32 :=
  Host.dotGeneral dot_S16x4096x512_S512x1024_S16x4096x1024_2_0_01_1_n_n none (extf .f32 y bitsLt_bf16_f32) w

/-- The two branches, each gated by its columns of the projection, added. -/
def merged (pr : FVec Ideal S16x4096x5632 .bf16) (a b : FVec Ideal S16x4096x1024 .f32) : FVec Ideal S16x4096x1024 .f32 :=
  addf (mulf (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (extf .f32 (extractStridedSlice S16x4096x1024 ![0, 0, 0] pr slices_S16x4096x5632_S16x4096x1024_0_0_0) bitsLt_bf16_f32))))) a)
    (mulf (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (extf .f32 (extractStridedSlice S16x4096x1024 ![0, 0, 1024] pr slices_S16x4096x5632_S16x4096x1024_0_0_1024) bitsLt_bf16_f32))))) b)

/-- The output projection. -/
def product (h : FVec Ideal S16x4096x1024 .f32) (w : FVec Ideal S1024x1024 .f32) : FVec Ideal S16x4096x1024 .f32 :=
  Host.dotGeneral dot_S16x4096x1024_S1024x1024_S16x4096x1024_2_0_01_1_n_n none h w

/-- The residual sum, its second term scaled by the modulation. -/
def residual (x : FVec Ideal S16x4096x1024 .f32) (md : FVec Ideal S16x6144 .f32) (y : FVec Ideal S16x4096x1024 .f32) : FVec Ideal S16x4096x1024 .f32 :=
  addf x (mulf (broadcastInDim S16x4096x1024 ![0, 1, 2] bcast_S16x1x1024_S16x4096x1024_0_1_2 (broadcastInDim S16x1x1024 ![0, 2] bcast_S16x1024_S16x1x1024_0_2
    (extractStridedSlice S16x1024 ![0, 2048] md slices_S16x6144_S16x1024_0_2048))) y)

/-- Rows normed and modulated. -/
def normRows (x : FVec Ideal S16x4096x1024 .f32) (md : FVec Ideal S16x6144 .f32) (g : FVec Ideal S1024 .f32) : FVec Ideal S16x4096x1024 .bf16 :=
  truncf .bf16 (addf (mulf (mulf (mulf x (broadcastInDim S16x4096x1024 ![0, 1, 2] bcast_S16x4096x1_S16x4096x1024_0_1_2 (Host.rsqrt (addf (Host.divf (broadcastInDim S16x4096x1 ![0, 1] bcast_S16x4096_S16x4096x1_0_1
      (Host.reduceAdd (mulf x x) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g)))
    (broadcastInDim S16x4096x1024 ![0, 1, 2] bcast_S16x1x1024_S16x4096x1024_0_1_2 (addf (broadcastInDim S16x1x1024 ![] bcast_S_S16x1x1024 (constant S_ .f32 0x3F800000#32))
      (broadcastInDim S16x1x1024 ![0, 2] bcast_S16x1024_S16x1x1024_0_2 (extractStridedSlice S16x1024 ![0, 4096] md slices_S16x6144_S16x1024_0_4096)))))
    (broadcastInDim S16x4096x1024 ![0, 1, 2] bcast_S16x1x1024_S16x4096x1024_0_1_2 (broadcastInDim S16x1x1024 ![0, 2] bcast_S16x1024_S16x1x1024_0_2 (extractStridedSlice S16x1024 ![0, 3072] md slices_S16x6144_S16x1024_0_3072)))) bitsLt_bf16_f32

/-- The residual stream from the arguments. -/
def stream (ya yb : FVec Ideal S16x4096x512 .bf16) (pr : FVec Ideal S16x4096x5632 .bf16) (x : FVec Ideal S16x4096x1024 .f32) (md : FVec Ideal S16x6144 .f32) (wa wb : FVec Ideal S512x1024 .f32) (wo : FVec Ideal S1024x1024 .f32) :
    FVec Ideal S16x4096x1024 .f32 := residual x md (product (merged pr (branch ya wa) (branch yb wb)) wo)

theorem norm_eq (m : (ℓ : Loc nD τ sig) → Buf (Elt Ideal) ℓ) (c : Dev nD) : Value.res_main_v55 m c = normRows (stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg4)) (m ((c.tc : Thread nD τ).loc main_arg8)) := by
  unfold Value.res_main_v55 normRows stream residual product merged branch
  rfl

theorem branch_at (y : FVec Ideal S16x4096x512 .bf16) (w : FVec Ideal S512x1024 .f32) (b : Fin 16) (T : Fin 4096) (d : Fin 1024) :
    branch y w (ix3 b T d) = ∑ j : Fin 512, y (ix3 b T j) * w (ix2 j d) := by
  pointwise [branch]

theorem merged_at (pr : FVec Ideal S16x4096x5632 .bf16) (u v : FVec Ideal S16x4096x1024 .f32) (b : Fin 16) (T : Fin 4096) (d : Fin 1024) :
    merged pr u v (ix3 b T d) = gated (pr (ix3 b T ⟨d.val, by omega⟩)) (pr (ix3 b T ⟨1024 + d.val, by omega⟩)) (u (ix3 b T d)) (v (ix3 b T d)) := by
  pointwise [merged, gated]

theorem product_at (h : FVec Ideal S16x4096x1024 .f32) (w : FVec Ideal S1024x1024 .f32) (b : Fin 16) (T : Fin 4096) (d : Fin 1024) :
    product h w (ix3 b T d) = ∑ k : Fin 1024, h (ix3 b T k) * w (ix2 k d) := by
  pointwise [product]

theorem residual_at (x : FVec Ideal S16x4096x1024 .f32) (md : FVec Ideal S16x6144 .f32) (y : FVec Ideal S16x4096x1024 .f32) (b : Fin 16) (T : Fin 4096) (d : Fin 1024) :
    residual x md y (ix3 b T d) = x (ix3 b T d) + md (ix2 b ⟨2048 + d.val, by omega⟩) * y (ix3 b T d) := by
  pointwise [residual]

theorem normRows_at (x : FVec Ideal S16x4096x1024 .f32) (md : FVec Ideal S16x6144 .f32) (g : FVec Ideal S1024 .f32) (b : Fin 16) (T : Fin 4096) (d : Fin 1024) :
    normRows x md g (ix3 b T d) = normed (fun k => x (ix3 b T k)) (fun k => g (ix1 k)) (fun k => md (ix2 b ⟨4096 + k.val, by omega⟩)) (fun k => md (ix2 b ⟨3072 + k.val, by omega⟩)) d := by
  pointwise [normRows, normed]

theorem stream_at (ya yb : FVec Ideal S16x4096x512 .bf16) (pr : FVec Ideal S16x4096x5632 .bf16) (x : FVec Ideal S16x4096x1024 .f32) (md : FVec Ideal S16x6144 .f32) (wa wb : FVec Ideal S512x1024 .f32) (wo : FVec Ideal S1024x1024 .f32)
    (b : Fin 16) (T : Fin 4096) (d : Fin 1024) : stream ya yb pr x md wa wb wo (ix3 b T d) = resAt ya yb pr x md wa wb wo b T d := by
  unfold stream resAt
  rw [residual_at, product_at]
  refine congrArg (_ + _ * ·) (Finset.sum_congr rfl fun k _ => congrArg (· * _) ?_)
  rw [merged_at, branch_at, branch_at]
  rfl

/-- The first result is the residual stream. -/
theorem stream_spec (ya yb : FVec Ideal S16x4096x512 .bf16) (pr : FVec Ideal S16x4096x5632 .bf16) (x : FVec Ideal S16x4096x1024 .f32) (md : FVec Ideal S16x6144 .f32) (wa wb : FVec Ideal S512x1024 .f32) (wo : FVec Ideal S1024x1024 .f32) :
    stream ya yb pr x md wa wb wo = resArr ya yb pr x md wa wb wo := by
  funext i
  idx_vars i
  exact stream_at ..

/-- The second result is the residual stream normed and modulated. -/
theorem norm_spec (ya yb : FVec Ideal S16x4096x512 .bf16) (pr : FVec Ideal S16x4096x5632 .bf16) (x : FVec Ideal S16x4096x1024 .f32) (md : FVec Ideal S16x6144 .f32) (wa wb : FVec Ideal S512x1024 .f32) (wo : FVec Ideal S1024x1024 .f32) (g : FVec Ideal S1024 .f32) :
    normRows (stream ya yb pr x md wa wb wo) md g = normArr ya yb pr x md wa wb wo g := by
  funext i
  idx_vars i
  refine (normRows_at _ _ _ _ _ _).trans ?_
  rw [funext fun k => stream_at ya yb pr x md wa wb wo _ _ k]
  rfl

/-- The reference's run with its results named. -/
theorem run (m : (ℓ : Loc nD τ sig) → Buf (Elt Ideal) ℓ) (ρ : Dev nD → PrngReg) :
    θ_run defs (onTc (τ := τ) (Cert.Reference3Ideal.main (F := Ideal))) ⟨m, fun _ => 0, ρ⟩ fun r => ∀ c : Dev nD,
      r.2.mem ((c.tc : Thread nD τ).loc main_v33) = resArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v55) = normArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (stream_spec ..), (h c).2.1.trans ((norm_eq m c).trans (norm_spec ..)), (h c).2.2⟩)
    (Cert.Reference3Ideal.Value.run m ρ)

end Cert.Reference3Ideal.Merge
end
-- ==== Proof.Mod.lean ====
/- The modulation call: its result array is `silu c @ w_ada + b_ada`, index by index. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Mod

open Cert.Kernel4Ideal Cert.Kernel4Ideal.Gen

variable (m : (ℓ : Loc nD τ sig) → Buf (Elt Ideal) ℓ) (ρ : Dev nD → PrngReg)

/-- The modulation at row `i 0`, column `i 1`: the dot product of `silu` of the conditioning row with the column of
    the weights, plus the bias. -/
def modAt (x : Vec Ideal S16x1024 .f32) (w : Vec Ideal S1024x6144 .f32) (b : Vec Ideal S6144 .f32) : Vec Ideal S16x6144 .f32 :=
  fun i => (∑ k : Fin 1024, (x (ix2 (i 0) k) * Ideal.div 1 (1 + Ideal.exp (-(x (ix2 (i 0) k))))) * w (ix2 k (i 1))) + b (ix1 (i 1))

/-- Where the four windows stand at a grid point: rows 0, columns in blocks of 512. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The result array of the pipelined call is `modAt` of the argument arrays. -/
theorem final (c : Dev nD) :
    (dats m 0 c).arrAt 3 cfg0.N = modAt (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay1, modAt, zero_sub]
  blk_point [iblk, V, idx t]

end Cert.Kernel4Ideal.Mod

namespace Cert.Reference4Ideal.Mod
open Cert.Reference4Ideal Cert.Reference4Ideal.Gen
open Cert.Kernel4Ideal.Mod (modAt)

variable (m : (ℓ : Loc nD τ sig) → Buf (Elt Ideal) ℓ) (ρ : Dev nD → PrngReg)

/-- The reference's run with its result named: `modAt` of the argument arrays. -/
theorem run : θ_run defs (onTc (τ := τ) (main (F := Ideal))) ⟨m, fun _ => 0, ρ⟩ fun r => ∀ c : Dev nD,
      r.2.mem ((c.tc : Thread nD τ).loc main_v4) = modAt (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by funext i; idx_vars i; pointwise! [modAt]), (h c).2⟩) (Cert.Reference4Ideal.Value.run m ρ)

end Cert.Reference4Ideal.Mod
end
-- ==== Proof.Fold.lean ====
/- The folding call: its result array is each head and half's sub-keys against the query weights of that head and half,
   index by index. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.KernelVsHost
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace FoldSpec

/-- Entry `d` of row `R`: the sub-key that `R` numbers (head, half, key) against row `d` of that head and half's query weights. -/
def foldAt (w : FVec Ideal ⟨2, ![1024, 2048]⟩ .f32) (sk : FVec Ideal ⟨4, ![8, 2, 128, 128]⟩ .f32) (R : Fin 2048) (d : Fin 1024) : EReal :=
  ∑ j : Fin 128, sk (ix4 ⟨R.val / 256, by omega⟩ ⟨R.val / 128 % 2, by omega⟩ ⟨R.val % 128, by omega⟩ j) * w (ix2 d ⟨R.val / 128 * 128 + j.val, by omega⟩)

/-- The folded weights. -/
def foldArr (w : FVec Ideal ⟨2, ![1024, 2048]⟩ .f32) (sk : FVec Ideal ⟨4, ![8, 2, 128, 128]⟩ .f32) : FVec Ideal ⟨2, ![2048, 1024]⟩ .bf16 := fun i => foldAt w sk (i 0) (i 1)

end FoldSpec

namespace Cert.Kernel5Ideal.Fold

open Cert.Kernel5Ideal Cert.Kernel5Ideal.Gen FoldSpec

/-- Where the three windows stand at a grid point: one head and half each. -/
theorem idx : ∀ t : Fin cfg0.N, win0_0.index t = ![t.val, 0, 0] ∧ win0_1.index t = ![0, t.val] ∧ win0_2.index t = ![t.val, 0] :=
  (by decide +kernel : ∀ t : Fin grid0.N, _)

theorem keys_block (A : Vec Ideal S16x128x128 .f32) (t : Fin cfg0.N) (n j : Fin 128) (q : Fin 16) (hq : q.val = t.val) :
    ((cfg0.win 0).blk t).view.read (Elt Ideal) A (ix3 0 n j) = A (ix3 q n j) := by
  blk_ext [idx t]

theorem weight_block (A : Vec Ideal S1024x2048 .f32) (t : Fin cfg0.N) (d : Fin 1024) (j : Fin 128) (e : Fin 2048) (he : e.val = t.val * 128 + j.val) :
    ((cfg0.win 1).blk t).view.read (Elt Ideal) A (ix2 d j) = A (ix2 d e) := by
  blk_ext [idx t]

theorem place (t : Fin cfg0.N) (n : Fin 128) (d : Fin 1024) (R : Fin 2048) (hR : R.val = t.val * 128 + n.val) :
    (win0_2.blk t).view.emb (ix2 n d) = ix2 R d := by
  blk_ext [idx t]

/-- One head and half's sub-keys against its query weights. -/
theorem fold_block (sk : Vec Ideal S1x128x128 .f32) (w : Vec Ideal S1024x128 .f32) (n : Fin 128) (d : Fin 1024) :
    k0_pay1 sk w (ix2 n d) = ∑ j : Fin 128, sk (ix3 0 n j) * w (ix2 d j) := by
  pointwise [k0_pay1]

variable (m : (ℓ : Loc nD τ sig) → Buf (Elt Ideal) ℓ)

theorem keys_entry (c : Dev nD) (q : Fin 16) (n j : Fin 128) :
    V m c main_v0 (ix3 q n j) = m ((c : Thread nD τ).loc main_arg1) (ix4 ⟨q.val / 2, by omega⟩ ⟨q.val % 2, by omega⟩ n j) := by
  entry_read
  pointwise

theorem keys_at (c : Dev nD) (t : Fin cfg0.N) (n j : Fin 128) (a : Fin 8) (b : Fin 2) (ht : t.val < 16) (ha : a.val = t.val / 2) (hb : b.val = t.val % 2) :
    iblk m c 0 t (ix3 0 n j) = m ((c : Thread nD τ).loc main_arg1) (ix4 a b n j) := by
  refine (keys_block (V m c main_v0) t n j ⟨t.val, ht⟩ rfl).trans ((keys_entry m c _ n j).trans ?_)
  rw [show a = ⟨t.val / 2, by omega⟩ from Fin.ext ha, show b = ⟨t.val % 2, by omega⟩ from Fin.ext hb]

theorem weight_at (c : Dev nD) (t : Fin cfg0.N) (d : Fin 1024) (j : Fin 128) (e : Fin 2048) (he : e.val = t.val * 128 + j.val) :
    iblk m c 1 t (ix2 d j) = m ((c : Thread nD τ).loc main_arg0) (ix2 d e) := by
  rw [← V_main_arg0 m c]
  exact weight_block (V m c main_arg0) t d j e he

theorem tile (c : Dev nD) (t : Fin cfg0.N) (n : Fin 128) (d : Fin 1024) (R : Fin 2048) (ht : t.val < 16) (hR : R.val = t.val * 128 + n.val) :
    k0_pay1 (iblk m c 0 t) (iblk m c 1 t) (ix2 n d) = foldArr (m ((c : Thread nD τ).loc main_arg0)) (m ((c : Thread nD τ).loc main_arg1)) (ix2 R d) := by
  refine (fold_block _ _ n d).trans ?_
  show _ = foldAt _ _ R d
  refine Finset.sum_congr rfl fun j _ => ?_
  rw [show n = ⟨R.val % 128, by omega⟩ from Fin.ext (by dsimp only; omega)]
  exact congrArg₂ (· * ·) (keys_at m c t _ j _ _ ht (by dsimp only; omega) (by dsimp only; omega)) (weight_at m c t d j _ (by dsimp only; omega))

/-- The result array of the pipelined call is the folded weights. -/
theorem final (c : Dev nD) : (dats m 0 c).arrAt 2 cfg0.N = foldArr (m ((c : Thread nD τ).loc main_arg0)) (m ((c : Thread nD τ).loc main_arg1)) := by
  refine (dats m 0 c).arrAt_eq_of_covers 2 _ (by decide +kernel) fun t hf y => ?_
  blk_simp
  rw [after0_2]
  frame_out
  have ht : t.val < 16 := t.isLt
  idx_vars y
  exact (tile m c t y0 y1 ⟨t.val * 128 + y0.val, by omega⟩ ht rfl).trans
    (congrArg (foldArr (m ((c : Thread nD τ).loc main_arg0)) (m ((c : Thread nD τ).loc main_arg1))) (place t y0 y1 ⟨t.val * 128 + y0.val, by omega⟩ rfl).symm)

end Cert.Kernel5Ideal.Fold

namespace Cert.Reference5Ideal.Fold

open Cert.Reference5Ideal Cert.Reference5Ideal.Gen FoldSpec

/-- The products, head by head and half by half. -/
def products (w : FVec Ideal S1024x2048 .f32) (sk : FVec Ideal S8x2x128x128 .f32) : FVec Ideal S8x2x128x1024 .f32 :=
  Host.dotGeneral dot_S8x2x128x128_S1024x8x2x128_S8x2x128x1024_3_3_2_0_01_12 none sk (shapeCast S1024x8x2x128 w shapeCasts_S1024x2048_S1024x8x2x128)

theorem split_at (w : FVec Ideal S1024x2048 .f32) (d : Fin 1024) (h : Fin 8) (p : Fin 2) (j : Fin 128) :
    shapeCast S1024x8x2x128 w shapeCasts_S1024x2048_S1024x8x2x128 (ix4 d h p j) = w (ix2 d ⟨h.val * 256 + p.val * 128 + j.val, by omega⟩) := by
  pointwise

theorem products_at (w : FVec Ideal S1024x2048 .f32) (sk : FVec Ideal S8x2x128x128 .f32) (h : Fin 8) (p : Fin 2) (n : Fin 128) (d : Fin 1024) :
    products w sk (ix4 h p n d) = ∑ j : Fin 128, sk (ix4 h p n j) * w (ix2 d ⟨h.val * 256 + p.val * 128 + j.val, by omega⟩) := by
  pointwise [products]

theorem rows_at (P : FVec Ideal S8x2x128x1024 .f32) (R : Fin 2048) (d : Fin 1024) :
    truncf .bf16 (shapeCast S2048x1024 P shapeCasts_S8x2x128x1024_S2048x1024) bitsLt_bf16_f32 (ix2 R d)
      = P (ix4 ⟨R.val / 256, by omega⟩ ⟨R.val / 128 % 2, by omega⟩ ⟨R.val % 128, by omega⟩ d) := by
  pointwise

theorem spec (w : FVec Ideal S1024x2048 .f32) (sk : FVec Ideal S8x2x128x128 .f32) :
    truncf .bf16 (shapeCast S2048x1024 (products w sk) shapeCasts_S8x2x128x1024_S2048x1024) bitsLt_bf16_f32 = foldArr w sk := by
  funext i
  idx_vars i
  refine (rows_at _ _ _).trans ((products_at ..).trans ?_)
  show _ = foldAt w sk i0 i1
  refine Finset.sum_congr rfl fun j _ => ?_
  exact congrArg (_ * ·) (congrArg (fun e => w (ix2 _ e)) (Fin.ext (by dsimp only; omega)))

variable (m : (ℓ : Loc nD τ sig) → Buf (Elt Ideal) ℓ) (ρ : Dev nD → PrngReg)

/-- The reference's run with its result named. -/
theorem run : θ_run defs (onTc (τ := τ) (main (F := Ideal))) ⟨m, fun _ => 0, ρ⟩ fun r => ∀ c : Dev nD,
      r.2.mem ((c.tc : Thread nD τ).loc main_v3) = foldArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (spec ..), (h c).2⟩) (Cert.Reference5Ideal.Value.run m ρ)

end Cert.Reference5Ideal.Fold
end
-- ==== Proof.lean ====
module

public import proofs.«01_k».proof.Defs
public import proofs.«01_k».proof.Proof.Attn.Final
public import proofs.«01_k».proof.Proof.Attn.Ref
public import proofs.«01_k».proof.Proof.Attn.Pre
public import proofs.«01_k».proof.Proof.Inproj.Final
public import proofs.«01_k».proof.Proof.Inproj.Ref
public import proofs.«01_k».proof.Proof.Merge.Final
public import proofs.«01_k».proof.Proof.Merge.Ref
public import proofs.«01_k».proof.Proof.Mod
public import proofs.«01_k».proof.Proof.Fold
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference attention runs, keeps its arguments, and ends with every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention kernel and its reference end with the same result array, when the scores' operands are finite. -/
theorem attention : Cert.algebraic_KernelIdeal_ReferenceIdeal_pre_finite_scores := by
  intro m ρ m' ρ' hpre hag
  refine ⟨fun c => BandAttn.attnAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run Cert.KernelIdeal.defs _ _).mono (fun _ h c => ⟨(h c).1.trans (Cert.KernelIdeal.Attn.final m c (Cert.Pre_finite_scores.finite _ _ (hpre c))), (h c).2⟩)
      (Cert.KernelIdeal.Value.run_blocks (F := Ideal) m ρ),
    (θ_run Cert.ReferenceIdeal.defs _ _).mono (fun _ h c => ⟨(h c).1.trans ((Cert.ReferenceIdeal.Attn.term_at m' c).trans ?_), (h c).2⟩)
      (Cert.ReferenceIdeal.Value.run (F := Ideal) m' ρ')⟩
  rw [(hag c).1, (hag c).2]

/-- The reference of the in-projection runs, keeps its arguments, and ends with every semaphore at zero. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The in-projection kernel and its reference end with the same three result arrays. -/
theorem inproj : Cert.algebraic_Kernel2Ideal_Reference2Ideal := by
  intro m ρ m' ρ' _ hag
  refine ⟨fun c => InprojSpec.mainArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => InprojSpec.gateArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)),
    fun c => InprojSpec.gateRowsArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)),
    (θ_run Cert.Kernel2Ideal.defs _ _).mono (fun _ h c => ⟨(h c).1.trans (Cert.Kernel2Ideal.Inproj.final9 m c), (h c).2.1.trans (Cert.Kernel2Ideal.Inproj.final10 m c),
      (h c).2.2.1.trans (Cert.Kernel2Ideal.Inproj.final11 m c), (h c).2.2.2⟩) (Cert.Kernel2Ideal.Value.run_blocks (F := Ideal) m ρ),
    (θ_run Cert.Reference2Ideal.defs _ _).mono (fun _ h c => ⟨(h c).1.trans ?_, (h c).2.1.trans ?_, (h c).2.2.1.trans ?_, (h c).2.2.2⟩) (Cert.Reference2Ideal.Inproj.run m' ρ')⟩
  · rw [(hag c).1, (hag c).2.1, (hag c).2.2.1, (hag c).2.2.2.1]
  · rw [(hag c).1, (hag c).2.1, (hag c).2.2.1, (hag c).2.2.2.1, (hag c).2.2.2.2.1, (hag c).2.2.2.2.2]
  · rw [(hag c).1, (hag c).2.1, (hag c).2.2.1, (hag c).2.2.2.1, (hag c).2.2.2.2.1, (hag c).2.2.2.2.2]
/-- The reference of the merge runs, keeps its arguments, and ends with every semaphore at zero. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The merge kernel and its reference end with the same two result arrays. -/
theorem merge : Cert.algebraic_Kernel3Ideal_Reference3Ideal := by
  intro m ρ m' ρ' _ hag
  refine ⟨fun c => MergeSpec.resArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)),
    fun c => MergeSpec.normArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
    (θ_run Cert.Kernel3Ideal.defs _ _).mono (fun _ h c => ⟨(h c).1.trans (Cert.Kernel3Ideal.Merge.final12 m c), (h c).2.1.trans (Cert.Kernel3Ideal.Merge.final13 m c), (h c).2.2⟩)
      (Cert.Kernel3Ideal.Value.run_blocks (F := Ideal) m ρ),
    (θ_run Cert.Reference3Ideal.defs _ _).mono (fun _ h c => ⟨(h c).1.trans ?_, (h c).2.1.trans ?_, (h c).2.2⟩) (Cert.Reference3Ideal.Merge.run m' ρ')⟩
  · rw [(hag c).1, (hag c).2.1, (hag c).2.2.1, (hag c).2.2.2.1, (hag c).2.2.2.2.1, (hag c).2.2.2.2.2.1, (hag c).2.2.2.2.2.2.1, (hag c).2.2.2.2.2.2.2.1]
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]

/-- The reference of the modulation vector runs, keeps its arguments, and ends with every semaphore at zero. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The modulation kernel and its reference end with the same result array. -/
theorem modulation : Cert.algebraic_Kernel4Ideal_Reference4Ideal := by
  intro m ρ m' ρ' _ hag
  refine ⟨fun c => Cert.Kernel4Ideal.Mod.modAt (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    (θ_run Cert.Kernel4Ideal.defs _ _).mono (fun _ h c => ⟨(h c).1.trans (Cert.Kernel4Ideal.Mod.final m c), (h c).2⟩)
      (Cert.Kernel4Ideal.Value.run_blocks (F := Ideal) m ρ),
    (θ_run Cert.Reference4Ideal.defs _ _).mono (fun _ h c => ⟨(h c).1.trans ?_, (h c).2⟩) (Cert.Reference4Ideal.Mod.run m' ρ')⟩
  rw [(hag c).1, (hag c).2.1, (hag c).2.2]

/-- The reference of the folding runs, keeps its arguments, and ends with every semaphore at zero. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The folding kernel and its reference end with the same result array. -/
theorem folding : Cert.algebraic_Kernel5Ideal_Reference5Ideal := by
  intro m ρ m' ρ' _ hag
  refine ⟨fun c => FoldSpec.foldArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun _ h c => ⟨(h c).1.trans (Cert.Kernel5Ideal.Fold.final m c), (h c).2⟩)
      (Cert.Kernel5Ideal.Value.run_blocks (F := Ideal) m ρ),
    (θ_run Cert.Reference5Ideal.defs _ _).mono (fun _ h c => ⟨(h c).1.trans ?_, (h c).2⟩) (Cert.Reference5Ideal.Fold.run m' ρ')⟩
  rw [(hag c).1, (hag c).2]

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_scores.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    IdealRules.named_const.statement Cert.KernelIdeal.κ "mask" .f32 0xF149F2CA#32 ⊥ rfl,
    attention,
    trivial,
    inproj,
    trivial,
    merge,
    trivial,
    modulation,
    trivial,
    folding⟩

end Cert.Proof

end
